-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_zero_bias [hPre_finite_zero_bias : Cert.Pre_finite_zero_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_zero_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_zero_bias [hPre_finite_zero_bias : Cert.Pre_finite_zero_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_zero_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_zero_bias [hKernelIdeal : Cert.KernelIdeal.Facts] [hPre_finite_zero_bias : Cert.Pre_finite_zero_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_zero_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_zero_bias [hReferenceIdeal : Cert.ReferenceIdeal.Facts] [hPre_finite_zero_bias : Cert.Pre_finite_zero_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_zero_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_nm1" .f32 0x38800200#32 ((1 / 16383 : ℝ) : EReal)

def algebraic_KernelIdeal_ReferenceIdeal_pre_finite_zero_bias [hKernelIdeal : Cert.KernelIdeal.Facts] [hReferenceIdeal : Cert.ReferenceIdeal.Facts] [hPre_finite_zero_bias : Cert.Pre_finite_zero_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_zero_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_zero_bias : Cert.Pre_finite_zero_bias.Facts),
    quiescent_Kernel (hKernel := hKernel)
    ∧ quiescent_KernelIdeal (hKernelIdeal := hKernelIdeal)
    ∧ quiescent_KernelIdeal_pre_finite_zero_bias (hKernelIdeal := hKernelIdeal) (hPre_finite_zero_bias := hPre_finite_zero_bias)
    ∧ quiescent_ReferenceIdeal (hReferenceIdeal := hReferenceIdeal)
    ∧ quiescent_ReferenceIdeal_pre_finite_zero_bias (hReferenceIdeal := hReferenceIdeal) (hPre_finite_zero_bias := hPre_finite_zero_bias)
    ∧ preserves_Kernel_KernelIdeal
    ∧ algebraic_KernelIdeal_ReferenceIdeal_pre_finite_zero_bias (hKernelIdeal := hKernelIdeal) (hReferenceIdeal := hReferenceIdeal) (hPre_finite_zero_bias := hPre_finite_zero_bias)
-- ==== Pre_finite_zero_bias.lean ====
abbrev S16384x1024 : Shape := ⟨2, ![16384, 1024]⟩
abbrev S16384x4096 : Shape := ⟨2, ![16384, 4096]⟩
abbrev S5120x64 : Shape := ⟨2, ![5120, 64]⟩
abbrev S64x5120 : Shape := ⟨2, ![64, 5120]⟩
abbrev S5120 : Shape := ⟨1, ![5120]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S5120 : S_.BroadcastsInDim S5120 (![] : Fin 0 → Fin S5120.rank)
  reducesTo_S5120_S_d0 : S5120.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x1024 .f32) (main_arg1 : FVec F S16384x4096 .f32) (main_arg2 : FVec F S5120x64 .f32) (main_arg3 : FVec F S64x5120 .f32) (main_arg4 : FVec F S5120 .f32) (main_arg5 : FVec F S5120x64 .f32) (main_arg6 : FVec F S64x5120 .f32) (main_arg7 : FVec F S5120 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_cst_2 : FVec F S_ .f32 := constant S_ .f32 0x00000000#32
  let main_v9 : FVec F S5120 .f32 := broadcastInDim S5120 ![] bcast_S_S5120 main_cst_2
  let main_v10 : IVec S5120 1 := cmpf .oeq main_arg4 main_v9
  let main_c_3 : IVec S_ 1 := constantI S_ 1 1#1
  let main_v11 : IVec S_ 1 := (fun x v => Host.reduce IntOp.andi x v reducesTo_S5120_S_d0 h_S_) main_v10 main_c_3
  let main_v12 : IVec S_ 1 := andi main_v8 main_v11
  let main_cst_4 : FVec F S_ .f32 := constant S_ .f32 0x00000000#32
  let main_v13 : FVec F S5120 .f32 := broadcastInDim S5120 ![] bcast_S_S5120 main_cst_4
  let main_v14 : IVec S5120 1 := cmpf .oeq main_arg7 main_v13
  let main_c_5 : IVec S_ 1 := constantI S_ 1 1#1
  let main_v15 : IVec S_ 1 := (fun x v => Host.reduce IntOp.andi x v reducesTo_S5120_S_d0 h_S_) main_v14 main_c_5
  fn_part1 (F := F) main_v12 main_v15
-- ==== Kernel.lean ====
abbrev S16384x1024 : Shape := ⟨2, ![16384, 1024]⟩
abbrev S16384x4096 : Shape := ⟨2, ![16384, 4096]⟩
abbrev S5120x64 : Shape := ⟨2, ![5120, 64]⟩
abbrev S64x5120 : Shape := ⟨2, ![64, 5120]⟩
abbrev S5120 : Shape := ⟨1, ![5120]⟩
abbrev S1x1024 : Shape := ⟨2, ![1, 1024]⟩
abbrev S1x4096 : Shape := ⟨2, ![1, 4096]⟩
abbrev S512x1024 : Shape := ⟨2, ![512, 1024]⟩
abbrev S512x4096 : Shape := ⟨2, ![512, 4096]⟩
abbrev S1024 : Shape := ⟨1, ![1024]⟩
abbrev S4096 : Shape := ⟨1, ![4096]⟩
abbrev S128x1024 : Shape := ⟨2, ![128, 1024]⟩
abbrev S128x4096 : Shape := ⟨2, ![128, 4096]⟩
abbrev S64x1024 : Shape := ⟨2, ![64, 1024]⟩
abbrev S128x64 : Shape := ⟨2, ![128, 64]⟩
abbrev S64x4096 : Shape := ⟨2, ![64, 4096]⟩
abbrev S1024x64 : Shape := ⟨2, ![1024, 64]⟩
abbrev S4096x64 : Shape := ⟨2, ![4096, 64]⟩

abbrev nBuf : Space → Nat
  | .hbm => 14
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S5120x64, .f32⟩
  | .hbm, ⟨3, _⟩ => ⟨S64x5120, .f32⟩
  | .hbm, ⟨4, _⟩ => ⟨S5120, .f32⟩
  | .hbm, ⟨5, _⟩ => ⟨S5120x64, .f32⟩
  | .hbm, ⟨6, _⟩ => ⟨S64x5120, .f32⟩
  | .hbm, ⟨7, _⟩ => ⟨S5120, .f32⟩
  | .hbm, ⟨8, _⟩ => ⟨S1x1024, .f32⟩
  | .hbm, ⟨9, _⟩ => ⟨S1x1024, .f32⟩
  | .hbm, ⟨10, _⟩ => ⟨S1x4096, .f32⟩
  | .hbm, ⟨11, _⟩ => ⟨S1x4096, .f32⟩
  | .hbm, ⟨12, _⟩ => ⟨S16384x1024, .f32⟩
  | .hbm, ⟨13, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S512x4096, .f32⟩
  | .local _ .vmem, ⟨3, _⟩ => ⟨S512x4096, .f32⟩
  | .local _ .vmem, ⟨4, _⟩ => ⟨S1x1024, .f32⟩
  | .local _ .vmem, ⟨5, _⟩ => ⟨S1x1024, .f32⟩
  | .local _ .vmem, ⟨6, _⟩ => ⟨S1x4096, .f32⟩
  | .local _ .vmem, ⟨7, _⟩ => ⟨S1x4096, .f32⟩
  | .local _ .vmem, ⟨8, _⟩ => ⟨S1x1024, .f32⟩
  | .local _ .vmem, ⟨9, _⟩ => ⟨S1x1024, .f32⟩
  | .local _ .vmem, ⟨10, _⟩ => ⟨S1x4096, .f32⟩
  | .local _ .vmem, ⟨11, _⟩ => ⟨S1x4096, .f32⟩
  | .local _ .vmem, ⟨12, _⟩ => ⟨S512x1024, .f32⟩
  | .local _ .vmem, ⟨13, _⟩ => ⟨S512x1024, .f32⟩
  | .local _ .vmem, ⟨14, _⟩ => ⟨S512x4096, .f32⟩
  | .local _ .vmem, ⟨15, _⟩ => ⟨S512x4096, .f32⟩
  | .local _ .vmem, ⟨16, _⟩ => ⟨S1x1024, .f32⟩
  | .local _ .vmem, ⟨17, _⟩ => ⟨S1x1024, .f32⟩
  | .local _ .vmem, ⟨18, _⟩ => ⟨S1x4096, .f32⟩
  | .local _ .vmem, ⟨19, _⟩ => ⟨S1x4096, .f32⟩
  | .local _ .vmem, ⟨20, _⟩ => ⟨S5120x64, .f32⟩
  | .local _ .vmem, ⟨21, _⟩ => ⟨S64x5120, .f32⟩
  | .local _ .vmem, ⟨22, _⟩ => ⟨S5120x64, .f32⟩
  | .local _ .vmem, ⟨23, _⟩ => ⟨S64x5120, .f32⟩
  | .local _ .vmem, ⟨24, _⟩ => ⟨S512x1024, .f32⟩
  | .local _ .vmem, ⟨25, _⟩ => ⟨S512x1024, .f32⟩
  | .local _ .vmem, ⟨26, _⟩ => ⟨S512x4096, .f32⟩
  | .local _ .vmem, ⟨27, _⟩ => ⟨S512x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1_0 : Ref sig .tc := ⟨.hbm, 12, rfl⟩
abbrev main_v1_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v35 : BitVec 1 := Scalar.cmpi .eq arg0 c31_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S5120x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x5120 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S5120x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x5120 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x4096 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== KernelIdeal.lean ====
variable {F : FTy → Type} [FloatOps F] [Named F]
def κ : String → Option EReal := fun
  | "inv_nm1" => some ((1 / 16383 : ℝ) : EReal)
  | _ => none
-- ==== ReferenceIdeal.lean ====
abbrev S16384x1024 : Shape := ⟨2, ![16384, 1024]⟩
abbrev S16384x4096 : Shape := ⟨2, ![16384, 4096]⟩
abbrev S5120x64 : Shape := ⟨2, ![5120, 64]⟩
abbrev S64x5120 : Shape := ⟨2, ![64, 5120]⟩
abbrev S5120 : Shape := ⟨1, ![5120]⟩
abbrev S16384x5120 : Shape := ⟨2, ![16384, 5120]⟩
abbrev S1x5120 : Shape := ⟨2, ![1, 5120]⟩
abbrev S_ : Shape := ⟨0, ![]⟩
abbrev S16383x5120 : Shape := ⟨2, ![16383, 5120]⟩
abbrev S16384x64 : Shape := ⟨2, ![16384, 64]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S5120x64, .f32⟩
  | .hbm, ⟨3, _⟩ => ⟨S64x5120, .f32⟩
  | .hbm, ⟨4, _⟩ => ⟨S5120, .f32⟩
  | .hbm, ⟨5, _⟩ => ⟨S5120x64, .f32⟩
  | .hbm, ⟨6, _⟩ => ⟨S64x5120, .f32⟩
  | .hbm, ⟨7, _⟩ => ⟨S5120, .f32⟩
  | .hbm, ⟨8, _⟩ => ⟨S16384x5120, .f32⟩
  | .hbm, ⟨9, _⟩ => ⟨S1x5120, .f32⟩
  | .hbm, ⟨10, _⟩ => ⟨S5120, .f32⟩
  | .hbm, ⟨11, _⟩ => ⟨S_, .f32⟩
  | .hbm, ⟨12, _⟩ => ⟨S5120, .f32⟩
  | .hbm, ⟨13, _⟩ => ⟨S16383x5120, .f32⟩
  | .hbm, ⟨14, _⟩ => ⟨S_, .f32⟩
  | .hbm, ⟨15, _⟩ => ⟨S_, .i32⟩
  | .hbm, ⟨16, _⟩ => ⟨S16383x5120, .f32⟩
  | .hbm, ⟨17, _⟩ => ⟨S_, .i32⟩
  | .hbm, ⟨18, _⟩ => ⟨S5120, .f32⟩
  | .hbm, ⟨19, _⟩ => ⟨S5120, .f32⟩
  | .hbm, ⟨20, _⟩ => ⟨S_, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S1x5120, .f32⟩
  | .hbm, ⟨25, _⟩ => ⟨S5120, .f32⟩
  | .hbm, ⟨26, _⟩ => ⟨S_, .f32⟩
  | .hbm, ⟨27, _⟩ => ⟨S_, .f32⟩
  | .hbm, ⟨28, _⟩ => ⟨S5120, .f32⟩
  | .hbm, ⟨29, _⟩ => ⟨S5120, .f32⟩
  | .hbm, ⟨30, _⟩ => ⟨S5120, .f32⟩
  | .hbm, ⟨31, _⟩ => ⟨S5120, .f32⟩
  | .hbm, ⟨32, _⟩ => ⟨S5120, .f32⟩
  | .hbm, ⟨33, _⟩ => ⟨S5120, .f32⟩
  | .hbm, ⟨34, _⟩ => ⟨S5120, .f32⟩
  | .hbm, ⟨35, _⟩ => ⟨S5120, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S_, .f32⟩
  | .hbm, ⟨40, _⟩ => ⟨S5120, .f32⟩
  | .hbm, ⟨41, _⟩ => ⟨S5120, .f32⟩
  | .hbm, ⟨42, _⟩ => ⟨S5120, .f32⟩
  | .hbm, ⟨43, _⟩ => ⟨S1x5120, .f32⟩
  | .hbm, ⟨44, _⟩ => ⟨S16384x5120, .f32⟩
  | .hbm, ⟨45, _⟩ => ⟨S16384x5120, .f32⟩
  | .hbm, ⟨46, _⟩ => ⟨S_, .f32⟩
  | .hbm, ⟨47, _⟩ => ⟨S5120, .f32⟩
  | .hbm, ⟨48, _⟩ => ⟨S5120, .f32⟩
  | .hbm, ⟨49, _⟩ => ⟨S1x5120, .f32⟩
  | .hbm, ⟨50, _⟩ => ⟨S16384x5120, .f32⟩
  | .hbm, ⟨51, _⟩ => ⟨S16384x5120, .f32⟩
  | .hbm, ⟨52, _⟩ => ⟨S5120x64, .f32⟩
  | .hbm, ⟨53, _⟩ => ⟨S16384x64, .f32⟩
  | .hbm, ⟨54, _⟩ => ⟨S64x5120, .f32⟩
  | .hbm, ⟨55, _⟩ => ⟨S16384x5120, .f32⟩
  | .hbm, ⟨56, _⟩ => ⟨S1x5120, .f32⟩
  | .hbm, ⟨57, _⟩ => ⟨S16384x5120, .f32⟩
  | .hbm, ⟨58, _⟩ => ⟨S16384x5120, .f32⟩
  | .hbm, ⟨59, _⟩ => ⟨S_, .f32⟩
  | .hbm, ⟨60, _⟩ => ⟨S16384x5120, .f32⟩
  | .hbm, ⟨61, _⟩ => ⟨S16384x5120, .f32⟩
  | .hbm, ⟨62, _⟩ => ⟨S16384x5120, .f32⟩
  | .hbm, ⟨63, _⟩ => ⟨S5120x64, .f32⟩
  | .hbm, ⟨64, _⟩ => ⟨S16384x64, .f32⟩
  | .hbm, ⟨65, _⟩ => ⟨S64x5120, .f32⟩
  | .hbm, ⟨66, _⟩ => ⟨S16384x5120, .f32⟩
  | .hbm, ⟨67, _⟩ => ⟨S1x5120, .f32⟩
  | .hbm, ⟨68, _⟩ => ⟨S16384x5120, .f32⟩
  | .hbm, ⟨69, _⟩ => ⟨S16384x5120, .f32⟩
  | .hbm, ⟨70, _⟩ => ⟨S_, .f32⟩
  | .hbm, ⟨71, _⟩ => ⟨S16384x5120, .f32⟩
  | .hbm, ⟨72, _⟩ => ⟨S16384x5120, .f32⟩
  | .hbm, ⟨73, _⟩ => ⟨S16384x5120, .f32⟩
  | .hbm, ⟨74, _⟩ => ⟨S16384x1024, .f32⟩
  | .hbm, ⟨75, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_c : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_while0c_c_9 : Ref sig .tc := ⟨.hbm, 21, rfl⟩
abbrev main_while0c_v40 : Ref sig .tc := ⟨.hbm, 22, rfl⟩
abbrev main_while0b_call0_c : Ref sig .tc := ⟨.hbm, 23, rfl⟩
abbrev main_while0b_call0_v0 : Ref sig .tc := ⟨.hbm, 24, rfl⟩
abbrev main_while0b_v40 : Ref sig .tc := ⟨.hbm, 25, rfl⟩
abbrev main_while0b_cst_9 : Ref sig .tc := ⟨.hbm, 26, rfl⟩
abbrev main_while0b_v41 : Ref sig .tc := ⟨.hbm, 27, rfl⟩
abbrev main_while0b_v42 : Ref sig .tc := ⟨.hbm, 28, rfl⟩
abbrev main_while0b_v43 : Ref sig .tc := ⟨.hbm, 29, rfl⟩
abbrev main_while0b_v44 : Ref sig .tc := ⟨.hbm, 30, rfl⟩
abbrev main_while0b_v45 : Ref sig .tc := ⟨.hbm, 31, rfl⟩
abbrev main_while0b_v46 : Ref sig .tc := ⟨.hbm, 32, rfl⟩
abbrev main_while0b_v47 : Ref sig .tc := ⟨.hbm, 33, rfl⟩
abbrev main_while0b_v48 : Ref sig .tc := ⟨.hbm, 34, rfl⟩
abbrev main_while0b_v49 : Ref sig .tc := ⟨.hbm, 35, rfl⟩
abbrev main_while0b_c_10 : Ref sig .tc := ⟨.hbm, 36, rfl⟩
abbrev main_while0b_v50 : Ref sig .tc := ⟨.hbm, 37, rfl⟩
abbrev main_cst_1 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_2 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_3 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_4 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩

abbrev nD : Nat := 1
abbrev τ : Topo := Topo.v7x

variable {F : FTy → Type} [FloatOps F]

abbrev main_while0_count : Scf.Loop 32 := ⟨0#32, 16383#32, 1#32⟩
-- ==== Proof.Whole.KernelIdeal.Stats.lean ====
/- The column-statistics call: its triples in the three cases of the grid point (first, middle, last), its proof
   data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions -/

/-- The condition of the reset at the first point. -/
abbrev condF (i : grid0.Coords) : Prop := (Scalar.cmpi .ne (Scalar.extui (Scalar.cmpi .eq (BitVec.ofNat 32 (i 0).val) 0#32)) 0#32) = 1#1
/-- The condition of the final division at the last point. -/
abbrev condL (i : grid0.Coords) : Prop := k0_cond2 i = 1#1

/-- The reset runs at point 0 only. -/
theorem hcondF : ∀ t : Fin cfg0.N, condF (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    have e1 : t.val / 1 % 32 = t.val := by omega
    rw [e1] at e0
    simp only [condF, e0]
    word_cmp
   : ∀ t : Fin grid0.N, condF (grid0.coords t) ↔ t.val = 0)

/-- The final division runs at point 31 only. -/
theorem hcondL : ∀ t : Fin cfg0.N, condL (grid0.coords t) ↔ t.val = 31 :=
  (fun t => by
    have ht : t.val < 32 := Nat.lt_of_lt_of_eq t.isLt N_0
    have e0 : (grid0.coords t 0).val = t.val / 1 % 32 := Pipeline.Grid.coords_val t 0 (by decide) rfl
    have e1 : t.val / 1 % 32 = t.val := by omega
    rw [e1] at e0
    simp only [condL, k0_cond2, e0]
    word_cmp
   : ∀ t : Fin grid0.N, condL (grid0.coords t) ↔ t.val = 31)

/-- Away from the last point each of the four outputs is idle and not written back. -/
theorem idle0 : ∀ t : Fin cfg0.N, ¬condL (grid0.coords t) →
    (cfg0.idle 2 (grid0.coords t) = true ∧ (cfg0.win 2).flush t = false)
    ∧ (cfg0.idle 3 (grid0.coords t) = true ∧ (cfg0.win 3).flush t = false)
    ∧ (cfg0.idle 4 (grid0.coords t) = true ∧ (cfg0.win 4).flush t = false)
    ∧ (cfg0.idle 5 (grid0.coords t) = true ∧ (cfg0.win 5).flush t = false) := by decide +kernel
/-- At the last point each of them is live. -/
theorem live0 : ∀ t : Fin cfg0.N, condL (grid0.coords t) →
    cfg0.idle 2 (grid0.coords t) = false ∧ cfg0.idle 3 (grid0.coords t) = false
    ∧ cfg0.idle 4 (grid0.coords t) = false ∧ cfg0.idle 5 (grid0.coords t) = false := by decide +kernel

/-! ## The scratch state -/

/-- What the four scratch rows hold: the sums and the sums of squares of the two arrays' columns so far. -/
structure St (F : FTy → Type) where
  su : Vec F S1x1024 .f32
  qu : Vec F S1x1024 .f32
  sv : Vec F S1x4096 .f32
  qv : Vec F S1x4096 .f32

/-- The state after the reset. -/
def st0 : St F := ⟨k0_pay6, k0_pay7, k0_pay8, k0_pay9⟩
/-- One block of rows added. -/
def stStep (x0 : Vec F S512x1024 .f32) (x1 : Vec F S512x4096 .f32) (s : St F) : St F :=
  ⟨k0_pay10 x0 s.su, k0_pay11 x0 s.qu, k0_pay12 x1 s.sv, k0_pay1 s.qv (k0_pay13 x1)⟩

/-! ## The body's triples -/

set_option maxHeartbeats 1600000 in
/-- The first point: the scratch rows are reset and the first block of rows is added; the outputs are untouched. -/
theorem triple0_A (c : Dev nD) (i : grid0.Coords) (arg1 : Memref sig .tc .vmem S512x1024 .f32) (harg1 : arg1.IsWhole) (arg2 : Memref sig .tc .vmem S512x4096 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x4096 .f32) (harg9 : arg9.IsWhole) (arg10 : Memref sig .tc .vmem S1x4096 .f32) (harg10 : arg10.IsWhole) (hc0 : condF i) (hc1 : ¬condL i)
    (x0 : Vec F S512x1024 .f32) (x1 : Vec F S512x4096 .f32) (y3 : Vec F S1x1024 .f32) (y4 : Vec F S1x1024 .f32) (y5 : Vec F S1x4096 .f32) (y6 : Vec F S1x4096 .f32) (K : PUnit → sProp 𝕄) :
    iprop(owns (c : Thread nD τ) arg1 fullShare x0 ∗ owns (c : Thread nD τ) arg2 fullShare x1 ∗ owns (c : Thread nD τ) arg3 fullShare y3 ∗ owns (c : Thread nD τ) arg4 fullShare y4 ∗ owns (c : Thread nD τ) arg5 fullShare y5 ∗ owns (c : Thread nD τ) arg6 fullShare y6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare (stStep x0 x1 st0).su ∗ owns (c : Thread nD τ) arg8 fullShare (stStep x0 x1 st0).qu ∗ owns (c : Thread nD τ) arg9 fullShare (stStep x0 x1 st0).sv ∗ owns (c : Thread nD τ) arg10 fullShare (stStep x0 x1 st0).qv) -∗ K ⟨⟩))
      ⊢ wp frame (wpE (defs₀ (F := F)) Variants.none c none) Set.univ (cc0_col_stats i arg1 harg1 arg2 harg2 arg3 harg3 arg4 harg4 arg5 harg5 arg6 harg6 arg7 harg7 arg8 harg8 arg9 harg9 arg10 harg10) K := by
  simp only [cc0_col_stats_eq_skeleton]; unfold cc0_col_stats_skel
  simp only [k0_part2_eq_skeleton, k0_part1_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%d10, %f10, -, H10⟩, Hk⟩
  obtain rfl := harg1.eq_unread h1; obtain rfl := harg2.eq_unread h2; obtain rfl := harg3.eq_unread h3; obtain rfl := harg4.eq_unread h4; obtain rfl := harg5.eq_unread h5; obtain rfl := harg6.eq_unread h6
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (View.read_writes_full _ _ _ _ _).trans ?_
    exact congrArg₂ k0_pay10 ((View.readAt_full _ _ _).trans (harg1.read_unread _)) (View.readCov_full _ _ _ _ _)
  isplitl [H8]
  · iexists _; isplitr
    swap; · iexact H8
    ipureintro
    refine (View.read_writes_full _ _ _ _ _).trans ?_
    exact congrArg₂ k0_pay11 ((View.readAt_full _ _ _).trans (harg1.read_unread _)) (View.readCov_full _ _ _ _ _)
  isplitl [H9]
  · iexists _; isplitr
    swap; · iexact H9
    ipureintro
    refine (View.read_writes_full _ _ _ _ _).trans ?_
    exact congrArg₂ k0_pay12 ((View.readAt_full _ _ _).trans (harg2.read_unread _)) (View.readCov_full _ _ _ _ _)
  iexists _; isplitr
  swap; · iexact H10
  ipureintro
  refine (View.read_writes_full _ _ _ _ _).trans ?_
  exact congrArg₂ k0_pay1 (View.readCov_full _ _ _ _ _) (congrArg k0_pay13 ((View.readAt_full _ _ _).trans (harg2.read_unread _)))

set_option maxHeartbeats 1600000 in
/-- A middle point: a block of rows is added; the outputs are untouched. -/
theorem triple0_B (c : Dev nD) (i : grid0.Coords) (arg1 : Memref sig .tc .vmem S512x1024 .f32) (harg1 : arg1.IsWhole) (arg2 : Memref sig .tc .vmem S512x4096 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x4096 .f32) (harg9 : arg9.IsWhole) (arg10 : Memref sig .tc .vmem S1x4096 .f32) (harg10 : arg10.IsWhole) (hc0 : ¬condF i) (hc1 : ¬condL i)
    (x0 : Vec F S512x1024 .f32) (x1 : Vec F S512x4096 .f32) (y3 : Vec F S1x1024 .f32) (y4 : Vec F S1x1024 .f32) (y5 : Vec F S1x4096 .f32) (y6 : Vec F S1x4096 .f32) (s : St F) (K : PUnit → sProp 𝕄) :
    iprop(owns (c : Thread nD τ) arg1 fullShare x0 ∗ owns (c : Thread nD τ) arg2 fullShare x1 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare s.su ∗ owns (c : Thread nD τ) arg8 fullShare s.qu ∗ owns (c : Thread nD τ) arg9 fullShare s.sv ∗ owns (c : Thread nD τ) arg10 fullShare s.qv
        ∗ (iprop(owns (c : Thread nD τ) arg1 fullShare x0 ∗ owns (c : Thread nD τ) arg2 fullShare x1 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare (stStep x0 x1 s).su ∗ owns (c : Thread nD τ) arg8 fullShare (stStep x0 x1 s).qu ∗ owns (c : Thread nD τ) arg9 fullShare (stStep x0 x1 s).sv ∗ owns (c : Thread nD τ) arg10 fullShare (stStep x0 x1 s).qv) -∗ K ⟨⟩))
      ⊢ wp frame (wpE (defs₀ (F := F)) Variants.none c none) Set.univ (cc0_col_stats i arg1 harg1 arg2 harg2 arg3 harg3 arg4 harg4 arg5 harg5 arg6 harg6 arg7 harg7 arg8 harg8 arg9 harg9 arg10 harg10) K := by
  simp only [cc0_col_stats_eq_skeleton]; unfold cc0_col_stats_skel
  simp only [k0_part2_eq_skeleton, k0_part1_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, Hk⟩
  obtain rfl := harg1.eq_unread h1; obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (View.read_writes_full _ _ _ _ _).trans ?_
    exact congrArg₂ k0_pay10 ((View.readAt_full _ _ _).trans (harg1.read_unread _)) ((View.readAt_full _ _ _).trans (harg7.read_unread _))
  isplitl [H8]
  · iexists _; isplitr
    swap; · iexact H8
    ipureintro
    refine (View.read_writes_full _ _ _ _ _).trans ?_
    exact congrArg₂ k0_pay11 ((View.readAt_full _ _ _).trans (harg1.read_unread _)) ((View.readAt_full _ _ _).trans (harg8.read_unread _))
  isplitl [H9]
  · iexists _; isplitr
    swap; · iexact H9
    ipureintro
    refine (View.read_writes_full _ _ _ _ _).trans ?_
    exact congrArg₂ k0_pay12 ((View.readAt_full _ _ _).trans (harg2.read_unread _)) ((View.readAt_full _ _ _).trans (harg9.read_unread _))
  iexists _; isplitr
  swap; · iexact H10
  ipureintro
  refine (View.read_writes_full _ _ _ _ _).trans ?_
  exact congrArg₂ k0_pay1 ((View.readAt_full _ _ _).trans (harg10.read_unread _)) (congrArg k0_pay13 ((View.readAt_full _ _ _).trans (harg2.read_unread _)))

set_option maxHeartbeats 1600000 in
/-- The last point: the last block of rows is added and the outputs are computed from the completed sums. -/
theorem triple0_C (c : Dev nD) (i : grid0.Coords) (arg1 : Memref sig .tc .vmem S512x1024 .f32) (harg1 : arg1.IsWhole) (arg2 : Memref sig .tc .vmem S512x4096 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x4096 .f32) (harg9 : arg9.IsWhole) (arg10 : Memref sig .tc .vmem S1x4096 .f32) (harg10 : arg10.IsWhole) (hc0 : ¬condF i) (hc1 : condL i)
    (x0 : Vec F S512x1024 .f32) (x1 : Vec F S512x4096 .f32) (s : St F) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare s.su ∗ owns (c : Thread nD τ) arg8 fullShare s.qu ∗ owns (c : Thread nD τ) arg9 fullShare s.sv ∗ owns (c : Thread nD τ) arg10 fullShare s.qv
        ∗ (iprop(owns (c : Thread nD τ) arg1 fullShare x0 ∗ owns (c : Thread nD τ) arg2 fullShare x1 ∗ owns (c : Thread nD τ) arg3 fullShare (k0_pay2 (stStep x0 x1 s).su) ∗ owns (c : Thread nD τ) arg4 fullShare (k0_pay3 (stStep x0 x1 s).su (stStep x0 x1 s).qu) ∗ owns (c : Thread nD τ) arg5 fullShare (k0_pay4 (stStep x0 x1 s).sv) ∗ owns (c : Thread nD τ) arg6 fullShare (k0_pay5 (stStep x0 x1 s).sv (stStep x0 x1 s).qv) ∗ owns (c : Thread nD τ) arg7 fullShare (stStep x0 x1 s).su ∗ owns (c : Thread nD τ) arg8 fullShare (stStep x0 x1 s).qu ∗ owns (c : Thread nD τ) arg9 fullShare (stStep x0 x1 s).sv ∗ owns (c : Thread nD τ) arg10 fullShare (stStep x0 x1 s).qv) -∗ K ⟨⟩))
      ⊢ wp frame (wpE (defs₀ (F := F)) Variants.none c none) Set.univ (cc0_col_stats i arg1 harg1 arg2 harg2 arg3 harg3 arg4 harg4 arg5 harg5 arg6 harg6 arg7 harg7 arg8 harg8 arg9 harg9 arg10 harg10) K := by
  simp only [cc0_col_stats_eq_skeleton]; unfold cc0_col_stats_skel
  simp only [k0_part2_eq_skeleton, k0_part1_eq_skeleton]
  unfold owns
  iintro ⟨⟨%f1, %h1, H1⟩, ⟨%f2, %h2, H2⟩, ⟨%d3, %f3, -, H3⟩, ⟨%d4, %f4, -, H4⟩, ⟨%d5, %f5, -, H5⟩, ⟨%d6, %f6, -, H6⟩, ⟨%f7, %h7, H7⟩, ⟨%f8, %h8, H8⟩, ⟨%f9, %h9, H9⟩, ⟨%f10, %h10, H10⟩, Hk⟩
  obtain rfl := harg1.eq_unread h1; obtain rfl := harg2.eq_unread h2; obtain rfl := harg7.eq_unread h7; obtain rfl := harg8.eq_unread h8; obtain rfl := harg9.eq_unread h9; obtain rfl := harg10.eq_unread h10
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    refine (View.read_writes_full _ _ _ _ _).trans ?_
    exact congrArg k0_pay2 ((View.readCov_full _ _ _ _ _).trans (congrArg₂ k0_pay10 ((View.readAt_full _ _ _).trans (harg1.read_unread _)) ((View.readAt_full _ _ _).trans (harg7.read_unread _))))
  isplitl [H4]
  · iexists _; isplitr
    swap; · iexact H4
    ipureintro
    refine (View.read_writes_full _ _ _ _ _).trans ?_
    exact congrArg₂ k0_pay3 ((View.readCov_full _ _ _ _ _).trans (congrArg₂ k0_pay10 ((View.readAt_full _ _ _).trans (harg1.read_unread _)) ((View.readAt_full _ _ _).trans (harg7.read_unread _)))) ((View.readCov_full _ _ _ _ _).trans (congrArg₂ k0_pay11 ((View.readAt_full _ _ _).trans (harg1.read_unread _)) ((View.readAt_full _ _ _).trans (harg8.read_unread _))))
  isplitl [H5]
  · iexists _; isplitr
    swap; · iexact H5
    ipureintro
    refine (View.read_writes_full _ _ _ _ _).trans ?_
    exact congrArg k0_pay4 ((View.readCov_full _ _ _ _ _).trans (congrArg₂ k0_pay12 ((View.readAt_full _ _ _).trans (harg2.read_unread _)) ((View.readAt_full _ _ _).trans (harg9.read_unread _))))
  isplitl [H6]
  · iexists _; isplitr
    swap; · iexact H6
    ipureintro
    refine (View.read_writes_full _ _ _ _ _).trans ?_
    exact congrArg₂ k0_pay5 ((View.readCov_full _ _ _ _ _).trans (congrArg₂ k0_pay12 ((View.readAt_full _ _ _).trans (harg2.read_unread _)) ((View.readAt_full _ _ _).trans (harg9.read_unread _)))) ((View.readCov_full _ _ _ _ _).trans (congrArg₂ k0_pay1 ((View.readAt_full _ _ _).trans (harg10.read_unread _)) (congrArg k0_pay13 ((View.readAt_full _ _ _).trans (harg2.read_unread _)))))
  isplitl [H7]
  · iexists _; isplitr
    swap; · iexact H7
    ipureintro
    refine (View.read_writes_full _ _ _ _ _).trans ?_
    exact congrArg₂ k0_pay10 ((View.readAt_full _ _ _).trans (harg1.read_unread _)) ((View.readAt_full _ _ _).trans (harg7.read_unread _))
  isplitl [H8]
  · iexists _; isplitr
    swap; · iexact H8
    ipureintro
    refine (View.read_writes_full _ _ _ _ _).trans ?_
    exact congrArg₂ k0_pay11 ((View.readAt_full _ _ _).trans (harg1.read_unread _)) ((View.readAt_full _ _ _).trans (harg8.read_unread _))
  isplitl [H9]
  · iexists _; isplitr
    swap; · iexact H9
    ipureintro
    refine (View.read_writes_full _ _ _ _ _).trans ?_
    exact congrArg₂ k0_pay12 ((View.readAt_full _ _ _).trans (harg2.read_unread _)) ((View.readAt_full _ _ _).trans (harg9.read_unread _))
  iexists _; isplitr
  swap; · iexact H10
  ipureintro
  refine (View.read_writes_full _ _ _ _ _).trans ?_
  exact congrArg₂ k0_pay1 ((View.readAt_full _ _ _).trans (harg10.read_unread _)) (congrArg k0_pay13 ((View.readAt_full _ _ _).trans (harg2.read_unread _)))

end Cert.KernelIdeal.Whole

end
-- ==== Proof.Whole.KernelIdeal.StatsBody.lean ====
/- The column-statistics call over its grid: the scratch state after each point, the proof data, the body obligation. -/
module

public import proofs.«01_k».proof.Proof.Whole.KernelIdeal.Stats

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-! ## The blocks and the running state -/

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch state before point `n` (after the first `n` blocks of rows). -/
def stAt (c : Dev nD) : ℕ → St F
  | 0 => st0
  | n + 1 => if h : n < cfg0.N then stStep (iblk0 V c 0 ⟨n, h⟩) (iblk0 V c 1 ⟨n, h⟩) (stAt c n) else stAt c n

/-- The state after a point is the state before it with the point's blocks added. -/
theorem stAt_succ (c : Dev nD) (t : Fin cfg0.N) :
    stAt V c (t.val + 1) = stStep (iblk0 V c 0 t) (iblk0 V c 1 t) (stAt V c t.val) := by
  rw [stAt, dif_pos t.isLt]

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The memrefs of a point -/

abbrev ms0_0 (t : Fin cfg0.N) : Memref sig .tc .vmem S512x1024 .f32 := win0_0.stage (cfg0.slots t 0)
abbrev ms0_1 (t : Fin cfg0.N) : Memref sig .tc .vmem S512x4096 .f32 := win0_1.stage (cfg0.slots t 1)
abbrev ms0_2 (t : Fin cfg0.N) : Memref sig .tc .vmem S1x1024 .f32 := win0_2.stage (cfg0.slots t 2)
abbrev ms0_3 (t : Fin cfg0.N) : Memref sig .tc .vmem S1x1024 .f32 := win0_3.stage (cfg0.slots t 3)
abbrev ms0_4 (t : Fin cfg0.N) : Memref sig .tc .vmem S1x4096 .f32 := win0_4.stage (cfg0.slots t 4)
abbrev ms0_5 (t : Fin cfg0.N) : Memref sig .tc .vmem S1x4096 .f32 := win0_5.stage (cfg0.slots t 5)
abbrev scM0_0 : Memref sig .tc .vmem S1x1024 .f32 := Memref.whole cc0_scratch0
abbrev scM0_1 : Memref sig .tc .vmem S1x1024 .f32 := Memref.whole cc0_scratch1
abbrev scM0_2 : Memref sig .tc .vmem S1x4096 .f32 := Memref.whole cc0_scratch2
abbrev scM0_3 : Memref sig .tc .vmem S1x4096 .f32 := Memref.whole cc0_scratch3

/-- The other call's staging buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

/-- The launch's invariant with the four scratch rows as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ others c) ∗ (∃ r, prngReg c r)) := by
  unfold Pipeline.ΦA; rw [scopedRest0_eq]; simp only [scM0_0, scM0_1, scM0_2, scM0_3, owns_whole, others]; try rfl

/-- The invariant with the scratch rows at the state `s`. -/
def PhiSt (c : Dev nD) (s : St F) : sProp 𝕄 :=
  iprop(iprop(owns (c : Thread nD τ) scM0_0 fullShare s.su ∗ owns (c : Thread nD τ) scM0_1 fullShare s.qu ∗ owns (c : Thread nD τ) scM0_2 fullShare s.sv ∗ owns (c : Thread nD τ) scM0_3 fullShare s.qv ∗ others c) ∗ (∃ r, prngReg c r))

/-- The invariant before point `n`: before the first one the launch's, after that the scratch rows at the running state. -/
def PhiS (c : Dev nD) : (n : ℕ) → n ≤ cfg0.N → sProp 𝕄
  | 0, _ => Pipeline.ΦA spec0 c
  | n + 1, _ => PhiSt c (stAt V c (n + 1))

/-- Before the first step the scratch buffers hold anything. -/
theorem PhiS_zero (c : Dev nD) (n : ℕ) (h : n ≤ cfg0.N) (hz : n = 0) : PhiS V c n h = Pipeline.ΦA spec0 c := by
  subst hz; rfl
/-- After a step the scratch buffers hold the running totals. -/
theorem PhiS_pos (c : Dev nD) (n : ℕ) (h : n ≤ cfg0.N) (hz : n ≠ 0) : PhiS V c n h = PhiSt c (stAt V c n) := by
  cases n with
  | zero => exact absurd rfl hz
  | succ n => rfl

/-! ## The proof data -/

/-- The call's proof data: the arrays as the region finds them; after point `t` an input's buffer at its block and an
    output's at what the state after `t` gives (read at the last point only, where the output is live). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (stAt V c (t.val + 1)).su
    | ⟨3, _⟩ => k0_pay3 (stAt V c (t.val + 1)).su (stAt V c (t.val + 1)).qu
    | ⟨4, _⟩ => k0_pay4 (stAt V c (t.val + 1)).sv
    | ⟨5, _⟩ => k0_pay5 (stAt V c (t.val + 1)).sv (stAt V c (t.val + 1)).qv
  Φ t := PhiS V c t.val (Nat.le_of_lt_succ t.isLt)
  q _ := fullShare
  owed _ := 0

/-- Each window's array is what it held on entry. -/
theorem A_eq0 (c : Dev nD) (w : Fin cfg0.W) : (dat0 V c).A w = V c (Pipeline.arrRef spec0 w) := by
  dsimp only [dat0]
/-- What the scratch buffers hold as a step begins. -/
theorem Phi_castSucc0 (c : Dev nD) (t : Fin cfg0.N) :
    (dat0 V c).Φ t.castSucc = PhiS V c t.val (Nat.le_of_lt t.isLt) := by
  dsimp only [dat0]; exact Pipeline.Dat.Φ_castSucc (PhiS V c) t
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (stAt V c (t.val + 1)).su := by dsimp only [dat0]
theorem after0_3 (c : Dev nD) (t : Fin cfg0.N) : (dat0 V c).after 3 t = k0_pay3 (stAt V c (t.val + 1)).su (stAt V c (t.val + 1)).qu := by dsimp only [dat0]
theorem after0_4 (c : Dev nD) (t : Fin cfg0.N) : (dat0 V c).after 4 t = k0_pay4 (stAt V c (t.val + 1)).sv := by dsimp only [dat0]
theorem after0_5 (c : Dev nD) (t : Fin cfg0.N) : (dat0 V c).after 5 t = k0_pay5 (stAt V c (t.val + 1)).sv (stAt V c (t.val + 1)).qv := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- A window that is live at `t` is left exactly at what `after` says. -/
theorem leaves_live (c : Dev nD) (w : Fin cfg0.W) (t : Fin cfg0.N) (h : cfg0.idle w (cfg0.grid.coords t) = false) :
    (dat0 V c).leavesExact w t = owns (c : Thread nD τ) ((cfg0.win w).stage (cfg0.slots t w)) fullShare ((dat0 V c).after w t) := by
  unfold Dat.leavesExact; rw [h]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 9600000 in
/-- The body at any point, by the case the point is in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiSt c (stAt V c (t.val + 1)) from rfl]
  rw [leaves_live V c 0 t rfl, leaves_live V c 1 t rfl, after0_0, after0_1, Phi_castSucc0]
  by_cases h1 : condL (grid0.coords t)
  · have e1 := (hcondL t).mp h1
    have h0 : ¬condF (grid0.coords t) := fun h => by have := (hcondF t).mp h; omega
    obtain ⟨l2, l3, l4, l5⟩ := live0 t h1
    rw [leaves_live V c 2 t l2, leaves_live V c 3 t l3, leaves_live V c 4 t l4, leaves_live V c 5 t l5, after0_2, after0_3, after0_4, after0_5]
    rw [PhiS_pos V c _ _ (by omega), stAt_succ]
    unfold PhiSt
    iintro ⟨⟨⟨HS0, HS1, HS2, HS3, Hr⟩, Hg⟩, Ho, ⟨%d0, H0⟩, ⟨%d1, H1⟩, ⟨%d2, H2⟩, ⟨%d3, H3⟩, ⟨%d4, H4⟩, ⟨%d5, H5⟩⟩
    iapply (triple0_C c (grid0.coords t) _ _ _ _ _ _ _ _ _ _ _ _ _ _ _ _ _ _ _ _ h0 h1 (iblk0 V c 0 t) (iblk0 V c 1 t) (stAt V c t.val) _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hr Hg]
    · isplitl [HS0 HS1 HS2 HS3 Hr]
      · isplitl [HS0]; · iexact HS0
        isplitl [HS1]; · iexact HS1
        isplitl [HS2]; · iexact HS2
        isplitl [HS3]; · iexact HS3
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨l2, l3, l4, l5⟩ := idle0 t h1
    rw [Dat.leavesExact_idle (dat0 V c) 2 t l2.1 l2.2, Dat.leavesExact_idle (dat0 V c) 3 t l3.1 l3.2,
      Dat.leavesExact_idle (dat0 V c) 4 t l4.1 l4.2, Dat.leavesExact_idle (dat0 V c) 5 t l5.1 l5.2, stAt_succ]
    by_cases h0 : condF (grid0.coords t)
    · have e0 := (hcondF t).mp h0
      rw [PhiS_zero V c _ _ e0, PhiA0_eq, e0]
      unfold PhiSt
      iintro ⟨⟨⟨HS0, HS1, HS2, HS3, Hr⟩, Hg⟩, Ho, ⟨%d0, H0⟩, ⟨%d1, H1⟩, ⟨%d2, H2⟩, ⟨%d3, H3⟩, ⟨%d4, H4⟩, ⟨%d5, H5⟩⟩
      iapply (triple0_A c (grid0.coords t) _ _ _ _ _ _ _ _ _ _ _ _ _ _ _ _ _ _ _ _ h0 h1 (iblk0 V c 0 t) (iblk0 V c 1 t) _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0 HS1 HS2 HS3 Hr]
        · isplitl [HS0]; · iexact HS0
          isplitl [HS1]; · iexact HS1
          isplitl [HS2]; · iexact HS2
          isplitl [HS3]; · iexact HS3
          iexact Hr
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5
    · have e0 : t.val ≠ 0 := fun h => h0 ((hcondF t).mpr h)
      rw [PhiS_pos V c _ _ e0]
      unfold PhiSt
      iintro ⟨⟨⟨HS0, HS1, HS2, HS3, Hr⟩, Hg⟩, Ho, ⟨%d0, H0⟩, ⟨%d1, H1⟩, ⟨%d2, H2⟩, ⟨%d3, H3⟩, ⟨%d4, H4⟩, ⟨%d5, H5⟩⟩
      iapply (triple0_B c (grid0.coords t) _ _ _ _ _ _ _ _ _ _ _ _ _ _ _ _ _ _ _ _ h0 h1 (iblk0 V c 0 t) (iblk0 V c 1 t) _ _ _ _ (stAt V c t.val) _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0 HS1 HS2 HS3 Hr]
        · isplitl [HS0]; · iexact HS0
          isplitl [HS1]; · iexact HS1
          isplitl [HS2]; · iexact HS2
          isplitl [HS3]; · iexact HS3
          iexact Hr
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Before the first point the invariant is the launch's. -/
theorem Phi0_first (c : Dev nD) : (dat0 V c).Φ 0 = Pipeline.ΦA spec0 c := rfl

/-- After the last point the invariant gives the launch's back: the scratch contents are forgotten. -/
theorem Phi0_last (c : Dev nD) : (dat0 V c).Φ (Fin.last cfg0.N) ⊢ Pipeline.ΦA spec0 c := by
  have hN : cfg0.N = 32 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  unfold PhiSt
  iintro ⟨⟨HS0, HS1, HS2, HS3, Hr⟩, Hg⟩
  isplitl [HS0 HS1 HS2 HS3 Hr]
  · isplitl [HS0]; · iexists _; iexact HS0
    isplitl [HS1]; · iexists _; iexact HS1
    isplitl [HS2]; · iexists _; iexact HS2
    isplitl [HS3]; · iexists _; iexact HS3
    iexact Hr
  iexact Hg

end Regions

end Cert.KernelIdeal.Whole

end
-- ==== Proof.Whole.KernelIdeal.Mlp.lean ====
/- The normalise-and-two-layers call: what one block of rows becomes, the body's triple, the proof data and the body
   obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body loads and stores -/

/-- The strips of 128 rows of a block, and the whole or split columns that the body reads. -/
abbrev rU0 : Rect S512x1024 := Rect.unit (s := S512x1024) ![0, 0] S128x1024.size inb_S512x1024_S128x1024_0_0
abbrev rU1 : Rect S512x1024 := Rect.unit (s := S512x1024) ![128, 0] S128x1024.size inb_S512x1024_S128x1024_128_0
abbrev rU2 : Rect S512x1024 := Rect.unit (s := S512x1024) ![256, 0] S128x1024.size inb_S512x1024_S128x1024_256_0
abbrev rU3 : Rect S512x1024 := Rect.unit (s := S512x1024) ![384, 0] S128x1024.size inb_S512x1024_S128x1024_384_0
abbrev rV0 : Rect S512x4096 := Rect.unit (s := S512x4096) ![0, 0] S128x4096.size inb_S512x4096_S128x4096_0_0
abbrev rV1 : Rect S512x4096 := Rect.unit (s := S512x4096) ![128, 0] S128x4096.size inb_S512x4096_S128x4096_128_0
abbrev rV2 : Rect S512x4096 := Rect.unit (s := S512x4096) ![256, 0] S128x4096.size inb_S512x4096_S128x4096_256_0
abbrev rV3 : Rect S512x4096 := Rect.unit (s := S512x4096) ![384, 0] S128x4096.size inb_S512x4096_S128x4096_384_0
abbrev rMu : Rect S1x1024 := Rect.unit (s := S1x1024) ![0, 0] S1x1024.size inb_S1x1024_S1x1024_0_0
abbrev rMv : Rect S1x4096 := Rect.unit (s := S1x4096) ![0, 0] S1x4096.size inb_S1x4096_S1x4096_0_0
abbrev rA0 : Rect S64x5120 := Rect.unit (s := S64x5120) ![0, 0] S64x1024.size inb_S64x5120_S64x1024_0_0
abbrev rA1 : Rect S64x5120 := Rect.unit (s := S64x5120) ![0, 1024] S64x4096.size inb_S64x5120_S64x4096_0_1024
abbrev rB0 : Rect S5120x64 := Rect.unit (s := S5120x64) ![0, 0] S1024x64.size inb_S5120x64_S1024x64_0_0
abbrev rB1 : Rect S5120x64 := Rect.unit (s := S5120x64) ![1024, 0] S4096x64.size inb_S5120x64_S4096x64_1024_0

/-! ## One sub-block of rows -/

/-- One layer's first 1024 columns, of a sub-block's two column groups. -/
def layU (xu : FVec F S128x1024 .f32) (xv : FVec F S128x4096 .f32) (wu : Vec F S5120x64 .f32) (wv : Vec F S64x5120 .f32) : FVec F S128x1024 .f32 :=
  k1_pay9 xu xv (View.ld wv rA0) (View.ld wv rA1) (View.ld wu rB0)
/-- One layer's last 4096 columns. -/
def layV (xu : FVec F S128x1024 .f32) (xv : FVec F S128x4096 .f32) (wu : Vec F S5120x64 .f32) (wv : Vec F S64x5120 .f32) : FVec F S128x4096 .f32 :=
  k1_pay10 xu xv (View.ld wv rA0) (View.ld wv rA1) (View.ld wu rB1)

/-- A sub-block normalised and taken through the two layers: the first 1024 columns, -/
def subU (a : Vec F S128x1024 .f32) (b : Vec F S128x4096 .f32) (mu : Vec F S1x1024 .f32) (su : Vec F S1x1024 .f32) (mv : Vec F S1x4096 .f32) (sv : Vec F S1x4096 .f32) (wu0 : Vec F S5120x64 .f32) (wv0 : Vec F S64x5120 .f32) (wu1 : Vec F S5120x64 .f32) (wv1 : Vec F S64x5120 .f32) : FVec F S128x1024 .f32 :=
  layU (layU (k1_pay3 a (View.ld mu rMu) (View.ld su rMu)) (k1_pay4 b (View.ld mv rMv) (View.ld sv rMv)) wu0 wv0)
    (layV (k1_pay3 a (View.ld mu rMu) (View.ld su rMu)) (k1_pay4 b (View.ld mv rMv) (View.ld sv rMv)) wu0 wv0) wu1 wv1
/-- and the last 4096. -/
def subV (a : Vec F S128x1024 .f32) (b : Vec F S128x4096 .f32) (mu : Vec F S1x1024 .f32) (su : Vec F S1x1024 .f32) (mv : Vec F S1x4096 .f32) (sv : Vec F S1x4096 .f32) (wu0 : Vec F S5120x64 .f32) (wv0 : Vec F S64x5120 .f32) (wu1 : Vec F S5120x64 .f32) (wv1 : Vec F S64x5120 .f32) : FVec F S128x4096 .f32 :=
  layV (layU (k1_pay3 a (View.ld mu rMu) (View.ld su rMu)) (k1_pay4 b (View.ld mv rMv) (View.ld sv rMv)) wu0 wv0)
    (layV (k1_pay3 a (View.ld mu rMu) (View.ld su rMu)) (k1_pay4 b (View.ld mv rMv) (View.ld sv rMv)) wu0 wv0) wu1 wv1

/-- A block's first result: its four sub-blocks of 128 rows, the last stored first in the list. -/
def outU (x0 : Vec F S512x1024 .f32) (x1 : Vec F S512x4096 .f32) (x2 : Vec F S1x1024 .f32) (x3 : Vec F S1x1024 .f32) (x4 : Vec F S1x4096 .f32) (x5 : Vec F S1x4096 .f32) (x6 : Vec F S5120x64 .f32) (x7 : Vec F S64x5120 .f32) (x8 : Vec F S5120x64 .f32) (x9 : Vec F S64x5120 .f32) : Vec F S512x1024 .f32 :=
  View.canon [⟨rU3, subU (View.ld x0 rU3) (View.ld x1 rV3) x2 x3 x4 x5 x6 x7 x8 x9⟩, ⟨rU2, subU (View.ld x0 rU2) (View.ld x1 rV2) x2 x3 x4 x5 x6 x7 x8 x9⟩, ⟨rU1, subU (View.ld x0 rU1) (View.ld x1 rV1) x2 x3 x4 x5 x6 x7 x8 x9⟩, ⟨rU0, subU (View.ld x0 rU0) (View.ld x1 rV0) x2 x3 x4 x5 x6 x7 x8 x9⟩]
/-- A block's second result. -/
def outV (x0 : Vec F S512x1024 .f32) (x1 : Vec F S512x4096 .f32) (x2 : Vec F S1x1024 .f32) (x3 : Vec F S1x1024 .f32) (x4 : Vec F S1x4096 .f32) (x5 : Vec F S1x4096 .f32) (x6 : Vec F S5120x64 .f32) (x7 : Vec F S64x5120 .f32) (x8 : Vec F S5120x64 .f32) (x9 : Vec F S64x5120 .f32) : Vec F S512x4096 .f32 :=
  View.canon [⟨rV3, subV (View.ld x0 rU3) (View.ld x1 rV3) x2 x3 x4 x5 x6 x7 x8 x9⟩, ⟨rV2, subV (View.ld x0 rU2) (View.ld x1 rV2) x2 x3 x4 x5 x6 x7 x8 x9⟩, ⟨rV1, subV (View.ld x0 rU1) (View.ld x1 rV1) x2 x3 x4 x5 x6 x7 x8 x9⟩, ⟨rV0, subV (View.ld x0 rU0) (View.ld x1 rV0) x2 x3 x4 x5 x6 x7 x8 x9⟩]

/-- The four strips cover the block of the first columns. -/
theorem coverU (p0 p1 p2 p3 : Vec F S128x1024 .f32) (y : S512x1024.Idx) :
    ∃ pc ∈ ([⟨rU3, p0⟩, ⟨rU2, p1⟩, ⟨rU1, p2⟩, ⟨rU0, p3⟩] : List (View.Piece (Elt F) S512x1024 .f32)), y ∈ pc.1.set :=
  View.cover_of_tiled [⟨rU3, p0⟩, ⟨rU2, p1⟩, ⟨rU1, p2⟩, ⟨rU0, p3⟩] S128x1024.size (by rfl) y
/-- The four strips cover the block of the last columns. -/
theorem coverV (p0 p1 p2 p3 : Vec F S128x4096 .f32) (y : S512x4096.Idx) :
    ∃ pc ∈ ([⟨rV3, p0⟩, ⟨rV2, p1⟩, ⟨rV1, p2⟩, ⟨rV0, p3⟩] : List (View.Piece (Elt F) S512x4096 .f32)), y ∈ pc.1.set :=
  View.cover_of_tiled [⟨rV3, p0⟩, ⟨rV2, p1⟩, ⟨rV1, p2⟩, ⟨rV0, p3⟩] S128x4096.size (by rfl) y

/-! ## The body's triple -/

set_option maxHeartbeats 4000000 in
/-- The body on whole staging memrefs: the inputs stay, the two outputs become the block's results. -/
theorem triple1 (c : Dev nD) (i : grid1.Coords) (arg1 : Memref sig .tc .vmem S512x1024 .f32) (harg1 : arg1.IsWhole) (arg2 : Memref sig .tc .vmem S512x4096 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S5120x64 .f32) (harg7 : arg7.IsWhole) (arg8 : Memref sig .tc .vmem S64x5120 .f32) (harg8 : arg8.IsWhole) (arg9 : Memref sig .tc .vmem S5120x64 .f32) (harg9 : arg9.IsWhole) (arg10 : Memref sig .tc .vmem S64x5120 .f32) (harg10 : arg10.IsWhole) (arg11 : Memref sig .tc .vmem S512x1024 .f32) (harg11 : arg11.IsWhole) (arg12 : Memref sig .tc .vmem S512x4096 .f32) (harg12 : arg12.IsWhole)
    (x0 : Vec F S512x1024 .f32) (x1 : Vec F S512x4096 .f32) (x2 : Vec F S1x1024 .f32) (x3 : Vec F S1x1024 .f32) (x4 : Vec F S1x4096 .f32) (x5 : Vec F S1x4096 .f32) (x6 : Vec F S5120x64 .f32) (x7 : Vec F S64x5120 .f32) (x8 : Vec F S5120x64 .f32) (x9 : Vec F S64x5120 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outU x0 x1 x2 x3 x4 x5 x6 x7 x8 x9) ∗ owns (c : Thread nD τ) arg12 fullShare (outV x0 x1 x2 x3 x4 x5 x6 x7 x8 x9)) -∗ K ⟨⟩))
      ⊢ wp frame (wpE (defs₀ (F := F)) Variants.none c none) Set.univ (cc1_norm_lr_mlp i arg1 harg1 arg2 harg2 arg3 harg3 arg4 harg4 arg5 harg5 arg6 harg6 arg7 harg7 arg8 harg8 arg9 harg9 arg10 harg10 arg11 harg11 arg12 harg12) K := by
  simp only [cc1_norm_lr_mlp_eq_skeleton]; unfold cc1_norm_lr_mlp_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (coverU _ _ _ _)).trans ?_
    rfl
  iexists _; isplitr
  swap; · iexact H11
  ipureintro
  refine (View.read_writes_eq_canon _ _ _ (coverV _ _ _ _)).trans ?_
  rfl

end Cert.KernelIdeal.Whole

end
-- ==== Proof.Whole.KernelIdeal.MlpBody.lean ====
/- The normalise-and-two-layers call over its grid: the proof data and the body obligation. -/
module

public import proofs.«01_k».proof.Proof.Whole.KernelIdeal.Mlp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S512x1024 .f32 := win1_0.stage (cfg1.slots t 0)
abbrev ms1_1 (t : Fin cfg1.N) : Memref sig .tc .vmem S512x4096 .f32 := win1_1.stage (cfg1.slots t 1)
abbrev ms1_2 (t : Fin cfg1.N) : Memref sig .tc .vmem S1x1024 .f32 := win1_2.stage (cfg1.slots t 2)
abbrev ms1_3 (t : Fin cfg1.N) : Memref sig .tc .vmem S1x1024 .f32 := win1_3.stage (cfg1.slots t 3)
abbrev ms1_4 (t : Fin cfg1.N) : Memref sig .tc .vmem S1x4096 .f32 := win1_4.stage (cfg1.slots t 4)
abbrev ms1_5 (t : Fin cfg1.N) : Memref sig .tc .vmem S1x4096 .f32 := win1_5.stage (cfg1.slots t 5)
abbrev ms1_6 (t : Fin cfg1.N) : Memref sig .tc .vmem S5120x64 .f32 := win1_6.stage (cfg1.slots t 6)
abbrev ms1_7 (t : Fin cfg1.N) : Memref sig .tc .vmem S64x5120 .f32 := win1_7.stage (cfg1.slots t 7)
abbrev ms1_8 (t : Fin cfg1.N) : Memref sig .tc .vmem S5120x64 .f32 := win1_8.stage (cfg1.slots t 8)
abbrev ms1_9 (t : Fin cfg1.N) : Memref sig .tc .vmem S64x5120 .f32 := win1_9.stage (cfg1.slots t 9)
abbrev ms1_10 (t : Fin cfg1.N) : Memref sig .tc .vmem S512x1024 .f32 := win1_10.stage (cfg1.slots t 10)
abbrev ms1_11 (t : Fin cfg1.N) : Memref sig .tc .vmem S512x4096 .f32 := win1_11.stage (cfg1.slots t 11)

/-- The call's proof data: after point `t` an input's buffer at its block and the outputs' at the block's results. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => outU (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => outV (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- Each window's array is what it held on entry. -/
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = outU (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) : (dat1 V c).after 11 t = outV (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t))

set_option maxHeartbeats 4000000 in
/-- The body at any point: the inputs' memrefs hold their blocks, so the triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (triple1 c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.Whole.KernelIdeal.Run.lean ====
/- The whole program's run: the two calls one after the other from the launch, with every buffer's contents at the end. -/
module

public import proofs.«01_k».proof.Proof.Whole.KernelIdeal.StatsBody
public import proofs.«01_k».proof.Proof.Whole.KernelIdeal.MlpBody

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7]

/-! ## The buffer contents at each segment boundary: a fold through @main, and what each item leaves unchanged -/

/-- A core's buffers at launch. -/
abbrev W0 : Dev nD → Valuation τ sig (Elt F) := fun c b => (s₀ m ρ).mem ((c : Dev nD), b)
/-- Before the first call every argument buffer holds its argument. -/
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
/-- After the first call each of its windows' arrays holds what the pipeline leaves there. -/
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- The first call leaves every other buffer alone. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- After the first call every argument buffer still holds its argument. -/
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
/-- The first call changes no buffer but its windows' arrays. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
/-- After the second call each of its windows' arrays holds what the pipeline leaves there. -/
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
/-- The second call leaves every other buffer alone. -/
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- After the second call every argument buffer still holds its argument. -/
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
/-- The second call changes no buffer but its windows' arrays. -/
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W2`, the generator register at some state. -/
abbrev Tₙ (c : Dev nD) : sProp 𝕄 := iprop(StableHlo.held (c : Thread nD τ) (Pipeline.ucRefs τ sig) (W2 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    have hlast : (pdats m ρ 0 c).Φ (Fin.last _) ⊢ (Pipeline.ΦA spec0 c : sProp 𝕄) := Phi0_last (V0 m ρ) c
    rw [Pipeline.ownSems0_none]
    refine hlast.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 2 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: from any memory with zero counters every execution of the program terminates, with every unscoped buffer at
    the last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

/-- The frame: the arguments end as launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    have key : ∀ a ∈ argRefs, ¬ (Proc.devRef .tc a : DevRef τ sig).isScoped →
        r.2.mem ((c.tc : Thread nD τ).loc a) = m ((c.tc : Thread nD τ).loc a) :=
      fun a ha hu => (h.1 c _ (mem_uc a hu)).trans (W2_args m ρ c a ha)
    ⟨key main_arg0 (by decide) (by decide), key main_arg1 (by decide) (by decide), key main_arg2 (by decide) (by decide), key main_arg3 (by decide) (by decide), key main_arg4 (by decide) (by decide), key main_arg5 (by decide) (by decide), key main_arg6 (by decide) (by decide), key main_arg7 (by decide) (by decide)⟩, h.2⟩) (run_all m ρ)

end Cert.KernelIdeal.Whole

end
-- ==== Proof.Whole.Reference.Run.lean ====
/- What the reference leaves in its buffers: the values before its loop, the loop's carried values trip by
   trip, and the two results and the arguments after it. -/
module

public import proofs.«01_k».proof.Defs
public import proofs.«01_k».proof.Proof.Gen.ReferenceIdeal.Run

@[expose] public section

noncomputable section

namespace Cert.ReferenceIdeal.Whole

open Cert.ReferenceIdeal Cert.ReferenceIdeal.Gen Cert.ReferenceIdeal.Value
open Idealize.ShloMosaic Idealize.ShloMosaic.TcCoe Idealize.ShloMosaic.Tactic
open Idealize.SL.Sem
open Idealize.ShloMosaic.StableHlo

variable {F : FTy → Type} [FloatOps F]

/-- The two arrays side by side. -/
def joined (u : (⟨S16384x1024, .f32⟩ : BufTy).Contents (Elt F)) (v : (⟨S16384x4096, .f32⟩ : BufTy).Contents (Elt F)) :
    (⟨S16384x5120, .f32⟩ : BufTy).Contents (Elt F) :=
  concatenate S16384x5120 1 [⟨S16384x1024, u⟩, ⟨S16384x4096, v⟩] concatenates_S16384x1024_S16384x4096_S16384x5120_d1

/-- The array with its columns' means taken off and divided by their deviations, from the loop's last values. -/
def normOf (x : (⟨S16384x5120, .f32⟩ : BufTy).Contents (Elt F)) (mean s : (⟨S5120, .f32⟩ : BufTy).Contents (Elt F))
    (n : (⟨S_, .f32⟩ : BufTy).Contents (Elt F)) : (⟨S16384x5120, .f32⟩ : BufTy).Contents (Elt F) :=
  Host.divf
    (subf x (broadcastInDim S16384x5120 ![0, 1] bcast_S1x5120_S16384x5120_0_1 (broadcastInDim S1x5120 ![1] bcast_S5120_S1x5120_1 mean)))
    (broadcastInDim S16384x5120 ![0, 1] bcast_S1x5120_S16384x5120_0_1
      (broadcastInDim S1x5120 ![1] bcast_S5120_S1x5120_1
        (addf (Host.sqrt (Host.divf s (broadcastInDim S5120 ![] bcast_S_S5120 (subf n (constant S_ .f32 0x3F800000#32)))))
          (broadcastInDim S5120 ![] bcast_S_S5120 (constant S_ .f32 0x33D6BF95#32)))))

/-- One low-rank layer with its bias, its rectifier and the input added back. -/
def layerOf (x : (⟨S16384x5120, .f32⟩ : BufTy).Contents (Elt F)) (wu : (⟨S5120x64, .f32⟩ : BufTy).Contents (Elt F))
    (wv : (⟨S64x5120, .f32⟩ : BufTy).Contents (Elt F)) (b : (⟨S5120, .f32⟩ : BufTy).Contents (Elt F)) :
    (⟨S16384x5120, .f32⟩ : BufTy).Contents (Elt F) :=
  addf (maximumf (addf
      (Host.dotGeneral dot_S16384x64_S64x5120_S16384x5120_1_0_0_1_n_n none
        (Host.dotGeneral dot_S16384x5120_S5120x64_S16384x64_1_0_0_1_n_n none x
          (transpose S5120x64 [1, 0] wv transposes_S64x5120_S5120x64_1_0))
        (transpose S64x5120 [1, 0] wu transposes_S5120x64_S64x5120_1_0))
      (broadcastInDim S16384x5120 ![0, 1] bcast_S1x5120_S16384x5120_0_1 (broadcastInDim S1x5120 ![1] bcast_S5120_S1x5120_1 b)))
    (broadcastInDim S16384x5120 ![] bcast_S_S16384x5120 (constant S_ .f32 0x00000000#32))) x

/-- The first columns of the wide array. -/
def leftOf (x : (⟨S16384x5120, .f32⟩ : BufTy).Contents (Elt F)) : (⟨S16384x1024, .f32⟩ : BufTy).Contents (Elt F) :=
  extractStridedSlice S16384x1024 ![0, 0] x slices_S16384x5120_S16384x1024_0_0

/-- The remaining columns of the wide array. -/
def rightOf (x : (⟨S16384x5120, .f32⟩ : BufTy).Contents (Elt F)) : (⟨S16384x4096, .f32⟩ : BufTy).Contents (Elt F) :=
  extractStridedSlice S16384x4096 ![0, 1024] x slices_S16384x5120_S16384x4096_0_1024

/-- The operations after the loop up to the normalised array. -/
abbrev postA : List (HloOp τ sig (Elt F)) := (hostOps0_1 (F := F)).take 14
/-- The first layer's operations. -/
abbrev postB : List (HloOp τ sig (Elt F)) := ((hostOps0_1 (F := F)).drop 14).take 11
/-- The second layer's operations. -/
abbrev postC : List (HloOp τ sig (Elt F)) := ((hostOps0_1 (F := F)).drop 25).take 11
/-- The two slices that are the results. -/
abbrev postD : List (HloOp τ sig (Elt F)) := (hostOps0_1 (F := F)).drop 36

set_option maxRecDepth 8192 in
/-- The operations after the loop are the four groups in order. -/
theorem post_cut : (hostOps0_1 : List (HloOp τ sig (Elt F))) = postA ++ (postB ++ (postC ++ postD)) := rfl

/-- What the first group writes. -/
abbrev postA_W : List (Ref sig .tc) := [main_cst_1, main_v6, main_v7, main_v8, main_v9, main_v10, main_v11, main_v12, main_cst_2, main_v13, main_v14, main_v15, main_v16, main_v17]
/-- What the first layer's group writes. -/
abbrev postB_W : List (Ref sig .tc) := [main_v18, main_v19, main_v20, main_v21, main_v22, main_v23, main_v24, main_cst_3, main_v25, main_v26, main_v27]
/-- What the second layer's group writes. -/
abbrev postC_W : List (Ref sig .tc) := [main_v28, main_v29, main_v30, main_v31, main_v32, main_v33, main_v34, main_cst_4, main_v35, main_v36, main_v37]
/-- What the last group writes. -/
abbrev postD_W : List (Ref sig .tc) := [main_v38, main_v39]

/-- The buffers that part A of the lines after the loop writes. -/
theorem postA_writes : (postA : List (HloOp τ sig (Elt F))).Forall fun op => op.writes ⊆ (postA_W.map (Proc.devRef (τ := τ) .tc)).toFinset :=
  StableHlo.forall_writes_sub_of_map rfl
/-- The buffers that part B of the lines after the loop writes. -/
theorem postB_writes : (postB : List (HloOp τ sig (Elt F))).Forall fun op => op.writes ⊆ (postB_W.map (Proc.devRef (τ := τ) .tc)).toFinset :=
  StableHlo.forall_writes_sub_of_map rfl
/-- The buffers that part C of the lines after the loop writes. -/
theorem postC_writes : (postC : List (HloOp τ sig (Elt F))).Forall fun op => op.writes ⊆ (postC_W.map (Proc.devRef (τ := τ) .tc)).toFinset :=
  StableHlo.forall_writes_sub_of_map rfl
/-- The buffers that part D of the lines after the loop writes. -/
theorem postD_writes : (postD : List (HloOp τ sig (Elt F))).Forall fun op => op.writes ⊆ (postD_W.map (Proc.devRef (τ := τ) .tc)).toFinset :=
  StableHlo.forall_writes_sub_of_map rfl

set_option maxRecDepth 8192 in
set_option maxHeartbeats 2000000 in
/-- The normalised array, of the contents the loop leaves. -/
theorem postA_v17 (V : Valuation τ sig (Elt F)) : after postA V (Proc.devRef .tc main_v17)
    = normOf (V (Proc.devRef .tc main_v0)) (V (Proc.devRef .tc main_v5_2)) (V (Proc.devRef .tc main_v5_3)) (V (Proc.devRef .tc main_v5_4)) := by
  simp only [postA, hostOps0_1, List.take_succ_cons, List.take_zero]
  after_reads_simp
  rfl

set_option maxRecDepth 8192 in
set_option maxHeartbeats 2000000 in
/-- The first layer's array, of the contents before it. -/
theorem postB_v27 (V : Valuation τ sig (Elt F)) : after postB V (Proc.devRef .tc main_v27)
    = layerOf (V (Proc.devRef .tc main_v17)) (V (Proc.devRef .tc main_arg2)) (V (Proc.devRef .tc main_arg3)) (V (Proc.devRef .tc main_arg4)) := by
  simp only [postB, hostOps0_1, List.drop_succ_cons, List.drop_zero, List.take_succ_cons, List.take_zero]
  after_reads_simp
  rfl

set_option maxRecDepth 8192 in
set_option maxHeartbeats 2000000 in
/-- The second layer's array, of the contents before it. -/
theorem postC_v37 (V : Valuation τ sig (Elt F)) : after postC V (Proc.devRef .tc main_v37)
    = layerOf (V (Proc.devRef .tc main_v27)) (V (Proc.devRef .tc main_arg5)) (V (Proc.devRef .tc main_arg6)) (V (Proc.devRef .tc main_arg7)) := by
  simp only [postC, hostOps0_1, List.drop_succ_cons, List.drop_zero, List.take_succ_cons, List.take_zero]
  after_reads_simp
  rfl

set_option maxRecDepth 8192 in
/-- The first result, of the contents before the slices. -/
theorem postD_v38 (V : Valuation τ sig (Elt F)) : after postD V (Proc.devRef .tc main_v38) = leftOf (V (Proc.devRef .tc main_v37)) := by
  simp only [postD, hostOps0_1, List.drop_succ_cons, List.drop_zero]
  after_reads_simp
  rfl

set_option maxRecDepth 8192 in
/-- The second result, of the contents before the slices. -/
theorem postD_v39 (V : Valuation τ sig (Elt F)) : after postD V (Proc.devRef .tc main_v39) = rightOf (V (Proc.devRef .tc main_v37)) := by
  simp only [postD, hostOps0_1, List.drop_succ_cons, List.drop_zero]
  after_reads_simp
  rfl

/-- A buffer no operation after the loop writes keeps its contents through them. -/
theorem post_keep (V : Valuation τ sig (Elt F)) (r : Ref sig .tc)
    (hA : r ∉ postA_W) (hB : r ∉ postB_W) (hC : r ∉ postC_W) (hD : r ∉ postD_W) :
    after hostOps0_1 V (Proc.devRef .tc r) = V (Proc.devRef .tc r) := by
  rw [post_cut, after_append, after_append, after_append, after_of_writes_sub postD _ postD_writes hD,
    after_of_writes_sub postC _ postC_writes hC, after_of_writes_sub postB _ postB_writes hB,
    after_of_writes_sub postA _ postA_writes hA]

/-- The array after both layers, of the contents the loop leaves. -/
def bothLayers (V : Valuation τ sig (Elt F)) : (⟨S16384x5120, .f32⟩ : BufTy).Contents (Elt F) :=
  layerOf (layerOf (normOf (V (Proc.devRef .tc main_v0)) (V (Proc.devRef .tc main_v5_2)) (V (Proc.devRef .tc main_v5_3)) (V (Proc.devRef .tc main_v5_4)))
      (V (Proc.devRef .tc main_arg2)) (V (Proc.devRef .tc main_arg3)) (V (Proc.devRef .tc main_arg4)))
    (V (Proc.devRef .tc main_arg5)) (V (Proc.devRef .tc main_arg6)) (V (Proc.devRef .tc main_arg7))

/-- The lines after the loop leave the second layer's result in its buffer. -/
theorem post_v37 (V : Valuation τ sig (Elt F)) :
    after postC (after postB (after postA V)) (Proc.devRef .tc main_v37) = bothLayers V := by
  rw [postC_v37, postB_v27, postA_v17,
    after_of_writes_sub postB _ postB_writes (r := main_arg5) (by decide), after_of_writes_sub postB _ postB_writes (r := main_arg6) (by decide),
    after_of_writes_sub postB _ postB_writes (r := main_arg7) (by decide),
    after_of_writes_sub postA _ postA_writes (r := main_arg2) (by decide), after_of_writes_sub postA _ postA_writes (r := main_arg3) (by decide),
    after_of_writes_sub postA _ postA_writes (r := main_arg4) (by decide), after_of_writes_sub postA _ postA_writes (r := main_arg5) (by decide),
    after_of_writes_sub postA _ postA_writes (r := main_arg6) (by decide), after_of_writes_sub postA _ postA_writes (r := main_arg7) (by decide)]
  rfl

/-- The first result, of the contents the loop leaves. -/
theorem post_v38 (V : Valuation τ sig (Elt F)) : after hostOps0_1 V (Proc.devRef .tc main_v38) = leftOf (bothLayers V) := by
  rw [post_cut, after_append, after_append, after_append, postD_v38, post_v37]

/-- The second result, of the contents the loop leaves. -/
theorem post_v39 (V : Valuation τ sig (Elt F)) : after hostOps0_1 V (Proc.devRef .tc main_v39) = rightOf (bothLayers V) := by
  rw [post_cut, after_append, after_append, after_append, postD_v39, post_v37]

variable (m : (ℓ : Loc nD τ sig) → Buf (Elt F) ℓ) (ρ : Dev nD → PrngReg)

/-- Every buffer's contents when the loop is left. -/
def left (c : Dev nD) : Valuation τ sig (Elt F) := after condOps (atK m 16383 c)

/-- A buffer neither the condition nor the body writes has, before any trip, what it had at the loop's entry. -/
theorem atK_keep (c : Dev nD) (r : Ref sig .tc) (h0 : r ∉ condOps_W) (h1 : r ∉ while0Ops0_W) (h2 : r ∉ while0Ops0_1_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_1 _ while0Ops0_1_writes h2, after_of_writes_sub while0Ops0 _ while0Ops0_writes h1,
      after_of_writes_sub condOps _ condOps_writes h0, atK_keep c r h0 h1 h2 k]
    rfl

/-- Such a buffer has the same when the loop is left. -/
theorem left_keep (c : Dev nD) (r : Ref sig .tc) (h0 : r ∉ condOps_W) (h1 : r ∉ while0Ops0_W) (h2 : r ∉ while0Ops0_1_W) :
    left m c (Proc.devRef .tc r) = entryContents preI m c (Proc.devRef .tc r) := by
  unfold left
  rw [after_of_writes_sub condOps _ condOps_writes h0, atK_keep m c r h0 h1 h2]

/-- The carried values after `k` trips. -/
def carried (c : Dev nD) (k : ℕ) : Valuation τ sig (Elt F) := STEP^[k] (entryContents preI m c)

/-- Before the first pass the loop carries what it was entered with. -/
theorem carried_zero (c : Dev nD) : carried m c 0 = entryContents preI m c := rfl

/-- Each pass applies the loop's body once. -/
theorem carried_succ (c : Dev nD) (k : ℕ) : carried m c (k + 1) = STEP (carried m c k) :=
  Function.iterate_succ_apply' _ _ _

/-- A carried buffer holds, when the loop is left, its value after the last trip. -/
theorem left_carried (c : Dev nD) (r : Ref sig .tc) (hr : r ∈ carriedRefs) :
    left m c (Proc.devRef .tc r) = carried m c 16383 (Proc.devRef .tc r) :=
  (cond_keeps (atK m 16383 c) r hr).trans (atK_agree m c 16383 r hr)

/-- An argument has its launch contents at the loop's entry. -/
theorem entry_keep (c : Dev nD) (r : Ref sig .tc) (h : r ∉ hostOps0_W) :
    entryContents preI m c (Proc.devRef .tc r) = m ((c.tc : Thread nD τ).loc r) := by
  simp only [entryContents, afterL_cons, afterL_nil]
  rw [after_of_writes_sub hostOps0 _ hostOps0_writes h]

set_option maxRecDepth 8192 in
/-- The wide array at the loop's entry. -/
theorem entry_v0 (c : Dev nD) : entryContents preI m c (Proc.devRef .tc main_v0)
    = joined (m ((c.tc : Thread nD τ).loc main_arg0)) (m ((c.tc : Thread nD τ).loc main_arg1)) := by
  simp only [entryContents, afterL_cons, afterL_nil]
  after_reads_simp
  rfl

set_option maxRecDepth 8192 in
/-- The rows the loop walks: all but the first. -/
theorem entry_v5_0 (c : Dev nD) : entryContents preI m c (Proc.devRef .tc main_v5_0)
    = extractStridedSlice S16383x5120 ![1, 0] (joined (m ((c.tc : Thread nD τ).loc main_arg0)) (m ((c.tc : Thread nD τ).loc main_arg1))) slices_S16384x5120_S16383x5120_1_0 := by
  simp only [entryContents, afterL_cons, afterL_nil]
  after_reads_simp
  rfl

set_option maxRecDepth 8192 in
/-- The running mean starts at the first row. -/
theorem entry_v5_2 (c : Dev nD) : entryContents preI m c (Proc.devRef .tc main_v5_2)
    = shapeCast S5120 (extractStridedSlice S1x5120 ![0, 0] (joined (m ((c.tc : Thread nD τ).loc main_arg0)) (m ((c.tc : Thread nD τ).loc main_arg1))) slices_S16384x5120_S1x5120_0_0) shapeCasts_S1x5120_S5120 := by
  simp only [entryContents, afterL_cons, afterL_nil]
  after_reads_simp
  rfl

set_option maxRecDepth 8192 in
/-- The running sum of squares starts at zero. -/
theorem entry_v5_3 (c : Dev nD) : entryContents preI m c (Proc.devRef .tc main_v5_3)
    = broadcastInDim S5120 ![] bcast_S_S5120 (constant (F := F) S_ .f32 0x00000000#32) := by
  simp only [entryContents, afterL_cons, afterL_nil]
  after_reads_simp
  rfl

set_option maxRecDepth 8192 in
/-- The count starts at one. -/
theorem entry_v5_4 (c : Dev nD) : entryContents preI m c (Proc.devRef .tc main_v5_4)
    = constant (F := F) S_ .f32 0x3F800000#32 := by
  simp only [entryContents, afterL_cons, afterL_nil]
  after_reads_simp
  rfl

/-- The array after both layers, of the arguments and the loop's last values. -/
def wide (c : Dev nD) : (⟨S16384x5120, .f32⟩ : BufTy).Contents (Elt F) :=
  layerOf (layerOf (normOf (joined (m ((c.tc : Thread nD τ).loc main_arg0)) (m ((c.tc : Thread nD τ).loc main_arg1)))
        (carried m c 16383 (Proc.devRef .tc main_v5_2)) (carried m c 16383 (Proc.devRef .tc main_v5_3)) (carried m c 16383 (Proc.devRef .tc main_v5_4)))
      (m ((c.tc : Thread nD τ).loc main_arg2)) (m ((c.tc : Thread nD τ).loc main_arg3)) (m ((c.tc : Thread nD τ).loc main_arg4)))
    (m ((c.tc : Thread nD τ).loc main_arg5)) (m ((c.tc : Thread nD τ).loc main_arg6)) (m ((c.tc : Thread nD τ).loc main_arg7))

/-- The two layers, applied to what the loop leaves, give the wide result. -/
theorem bothLayers_left (c : Dev nD) : bothLayers (left m c) = wide m c := by
  unfold bothLayers wide
  rw [left_keep m c main_v0 (by decide) (by decide) (by decide), entry_v0,
    left_carried m c main_v5_2 (by decide), left_carried m c main_v5_3 (by decide), left_carried m c main_v5_4 (by decide),
    left_keep m c main_arg2 (by decide) (by decide) (by decide), entry_keep m c main_arg2 (by decide),
    left_keep m c main_arg3 (by decide) (by decide) (by decide), entry_keep m c main_arg3 (by decide),
    left_keep m c main_arg4 (by decide) (by decide) (by decide), entry_keep m c main_arg4 (by decide),
    left_keep m c main_arg5 (by decide) (by decide) (by decide), entry_keep m c main_arg5 (by decide),
    left_keep m c main_arg6 (by decide) (by decide) (by decide), entry_keep m c main_arg6 (by decide),
    left_keep m c main_arg7 (by decide) (by decide) (by decide), entry_keep m c main_arg7 (by decide)]

/-- Every buffer the run leaves is read off the contents when the loop is left. -/
theorem final_eq (c : Dev nD) : finalContents condOps preI bodyI postI 16383 m c = after hostOps0_1 (left m c) := rfl

/-- A buffer nothing writes ends with its launch contents. -/
theorem final_keep (c : Dev nD) (r : Ref sig .tc) (h : r ∉ hostOps0_W) (h0 : r ∉ condOps_W) (h1 : r ∉ while0Ops0_W) (h2 : r ∉ while0Ops0_1_W)
    (hA : r ∉ postA_W) (hB : r ∉ postB_W) (hC : r ∉ postC_W) (hD : r ∉ postD_W) :
    finalContents condOps preI bodyI postI 16383 m c (Proc.devRef .tc r) = m ((c.tc : Thread nD τ).loc r) := by
  rw [final_eq, post_keep _ r hA hB hC hD, left_keep m c r h0 h1 h2, entry_keep m c r h]

/-- What the reference's run leaves: its two results, and its arguments as they were. -/
theorem run_all : θ_run (defs (F := F)) (onTc (τ := τ) (main (F := F))) ⟨m, fun _ => 0, ρ⟩
    (fun r => ∀ c : Dev nD, r.2.mem ((c.tc : Thread nD τ).loc main_v38) = leftOf (wide m c)
      ∧ r.2.mem ((c.tc : Thread nD τ).loc main_v39) = rightOf (wide m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run _ _ _).mono (fun r h c => ?_) (run_fold m ρ)
  have hk : ∀ q : Ref sig .tc, (Proc.devRef .tc q : DevRef τ sig).isScoped = false → q ∉ hostOps0_W → q ∉ condOps_W → q ∉ while0Ops0_W →
      q ∉ while0Ops0_1_W → q ∉ postA_W → q ∉ postB_W → q ∉ postC_W → q ∉ postD_W →
      r.2.mem ((c.tc : Thread nD τ).loc q) = m ((c.tc : Thread nD τ).loc q) := fun q hs h1 h2 h3 h4 h5 h6 h7 h8 =>
    (h c q hs).trans (final_keep m c q h1 h2 h3 h4 h5 h6 h7 h8)
  refine ⟨?_, ?_, ?_, ?_, ?_, ?_, ?_, ?_, ?_, ?_⟩
  · rw [h c main_v38 (by decide), final_eq, post_v38, bothLayers_left]
  · rw [h c main_v39 (by decide), final_eq, post_v39, bothLayers_left]
  all_goals exact hk _ (by decide) (by decide) (by decide) (by decide) (by decide) (by decide) (by decide) (by decide) (by decide)

end Cert.ReferenceIdeal.Whole

end
-- ==== Proof.Whole.Moments.lean ====
/- Running mean and running sum of squared differences of a sequence of real numbers: they are the closed forms. -/
module

public import Idealize.ShloMosaic.PureOps.Ideal
public import Mathlib.Tactic.FieldSimp
public import Mathlib.Tactic.Linarith
public import Mathlib.Tactic.Positivity
public import Mathlib.Tactic.Ring

@[expose] public section

noncomputable section

namespace Cert.Moments

open Finset

/-- The sum of the first `k` terms. -/
def total (X : ℕ → ℝ) (k : ℕ) : ℝ := ∑ i ∈ range k, X i

/-- The mean of the first `k` terms. -/
def mean (X : ℕ → ℝ) (k : ℕ) : ℝ := total X k / k

/-- The sum of the squared differences from the mean of the first `k` terms. -/
def spread (X : ℕ → ℝ) (k : ℕ) : ℝ := total (fun i => X i * X i) k - total X k * mean X k

/-- One more sample adds itself to the total. -/
theorem total_succ (X : ℕ → ℝ) (k : ℕ) : total X (k + 1) = total X k + X k := sum_range_succ X k

/-- One more term moves the mean by its distance from it over the new count. -/
theorem mean_succ (X : ℕ → ℝ) {k : ℕ} (hk : 0 < k) : mean X (k + 1) = mean X k + (X k - mean X k) * (1 / ((k : ℝ) + 1)) := by
  have h : (k : ℝ) ≠ 0 := by exact_mod_cast hk.ne'
  have h' : (k : ℝ) + 1 ≠ 0 := by positivity
  simp only [mean, total_succ, Nat.cast_add, Nat.cast_one]
  field_simp
  ring

/-- One more term adds the product of its distances from the old and the new mean. -/
theorem spread_succ (X : ℕ → ℝ) {k : ℕ} (hk : 0 < k) :
    spread X (k + 1) = spread X k + (X k - mean X k) * (X k - mean X (k + 1)) := by
  have h : (k : ℝ) ≠ 0 := by exact_mod_cast hk.ne'
  have h' : (k : ℝ) + 1 ≠ 0 := by positivity
  simp only [spread, mean, total_succ, Nat.cast_add, Nat.cast_one]
  field_simp
  ring

/-- The mean of one sample is the sample. -/
theorem mean_one (X : ℕ → ℝ) : mean X 1 = X 0 := by simp [mean, total]

/-- One sample has no spread. -/
theorem spread_one (X : ℕ → ℝ) : spread X 1 = 0 := by simp [spread, mean, total]

/-- The sum of squared differences is not negative. -/
theorem spread_nonneg (X : ℕ → ℝ) : ∀ k, 0 < k → 0 ≤ spread X k := by
  intro k hk
  induction k, hk using Nat.le_induction with
  | base => rw [spread_one]
  | succ k hk ih =>
    have hk' : 0 < k := hk
    have h' : (0 : ℝ) < (k : ℝ) + 1 := by positivity
    have e : (X k - mean X k) * (X k - mean X (k + 1)) = (X k - mean X k) ^ 2 * ((k : ℝ) / ((k : ℝ) + 1)) := by
      rw [mean_succ X hk']
      field_simp
      ring
    rw [spread_succ X hk', e]
    have : 0 ≤ (X k - mean X k) ^ 2 * ((k : ℝ) / ((k : ℝ) + 1)) := by positivity
    linarith

/-- The small number added to a deviation. -/
def eps : ℝ := 14073749 / 140737488355328

/-- The constant added to the deviation is positive. -/
theorem eps_pos : 0 < eps := by norm_num [eps]

/-- The deviation with the small number added. -/
def width (X : ℕ → ℝ) : ℝ := √(spread X 16384 * (1 / 16383)) + eps

/-- The width is positive. -/
theorem width_pos (X : ℕ → ℝ) : 0 < width X := add_pos_of_nonneg_of_pos (Real.sqrt_nonneg _) eps_pos

/-- Term `r` with the mean taken off and the width divided out. -/
def scaled (X : ℕ → ℝ) (r : ℕ) : ℝ := (X r - mean X 16384) * (1 / width X)

end Cert.Moments

end
-- ==== Proof.Whole.Reals.lean ====
/- Real numbers among the extended reals: quotients, roots and sums of them, and the reciprocal width of a column. -/
module

public import proofs.«01_k».proof.Proof.Whole.Moments

@[expose] public section

noncomputable section

namespace Cert.Moments

open Idealize.ShloMosaic

/-- A quotient of reals with a nonzero divisor, among the extended reals. -/
theorem div_coe_coe (a b : ℝ) (h : b ≠ 0) : Ideal.div (a : EReal) (b : EReal) = ((a * (1 / b) : ℝ) : EReal) := by
  rw [Ideal.div_coe h, EReal.coe_mul]

/-- The number added to a deviation, read off its bits. -/
theorem eps_bits : Ideal.ofBits .f32 0x33D6BF95#32 = ((eps : ℝ) : EReal) := by
  simp [Ideal.ofBits, Ideal.ieee, eps, -EReal.coe_mul]
  norm_num

/-- The number of rows, read off its bits. -/
theorem rows_bits : Ideal.ofBits .f32 0x46800000#32 = ((16384 : ℝ) : EReal) := by
  simp [Ideal.ofBits, Ideal.ieee, -EReal.coe_mul]
  norm_num

/-- The square root of a real that is not negative, among the extended reals. -/
theorem sqrt_coe_nonneg {a : ℝ} (h : 0 ≤ a) : Ideal.sqrt (a : EReal) = ((√a : ℝ) : EReal) := by
  show (if a < 0 then (⊥ : EReal) else _) = _
  rw [if_neg (not_lt.mpr h)]

/-- A sum of reals, among the extended reals. -/
theorem coe_range_sum (f : ℕ → ℝ) : ∀ k, ((∑ i ∈ Finset.range k, f i : ℝ) : EReal) = ∑ i ∈ Finset.range k, ((f i : ℝ) : EReal)
  | 0 => by simp
  | k + 1 => by rw [Finset.sum_range_succ, EReal.coe_add, coe_range_sum f k, Finset.sum_range_succ]

/-- A block of terms added to the sum of the terms before it. -/
theorem total_block (X : ℕ → ℝ) (a b : ℕ) :
    ((total X a : ℝ) : EReal) + ∑ i : Fin b, ((X (a + i) : ℝ) : EReal) = ((total X (a + b) : ℝ) : EReal) := by
  rw [total, total, Finset.sum_range_add, EReal.coe_add, coe_range_sum (fun i => X (a + i)) b,
    Fin.sum_univ_eq_sum_range (fun i => ((X (a + i) : ℝ) : EReal)) b]

/-- The mean, as the sum over the number of rows. -/
theorem mean_eq (X : ℕ → ℝ) : Ideal.div ((total X 16384 : ℝ) : EReal) ((16384 : ℝ) : EReal) = ((mean X 16384 : ℝ) : EReal) := by
  rw [div_coe_coe _ _ (by norm_num), mean, mul_one_div, Nat.cast_ofNat]

/-- The reciprocal width, from the sum of the terms and the sum of their squares. -/
theorem recip_eq (X : ℕ → ℝ) :
    Ideal.div 1 (Ideal.sqrt (max ((((total (fun i => X i * X i) 16384 : ℝ) : EReal) - ((total X 16384 : ℝ) : EReal) * ((mean X 16384 : ℝ) : EReal))
        * ((1 / 16383 : ℝ) : EReal)) 0) + ((eps : ℝ) : EReal)) = ((1 / width X : ℝ) : EReal) := by
  have h0 : (0 : ℝ) ≤ spread X 16384 * (1 / 16383) := mul_nonneg (spread_nonneg _ _ (by norm_num)) (by norm_num)
  rw [← EReal.coe_mul, ← EReal.coe_sub, ← EReal.coe_mul]
  rw [show (total (fun i => X i * X i) 16384 - total X 16384 * mean X 16384) = spread X 16384 from rfl]
  rw [max_eq_left (EReal.coe_nonneg.mpr h0), sqrt_coe_nonneg h0, ← EReal.coe_add, ← EReal.coe_one]
  exact (div_coe_coe 1 (width X) (width_pos X).ne').trans (by rw [one_mul])

end Cert.Moments

end
-- ==== Proof.Whole.Layers.lean ====
/- The two low-rank residual layers on one row held as two column groups, of 1024 and of 4096 columns, over the extended
   reals; and their agreement with the same layer on the row as one array of 5120 columns. -/
module

public import Idealize.ShloMosaic.Lib.Pointwise

@[expose] public section

noncomputable section

namespace Cert.Layers

/-- A column of the first group, among all 5120. -/
abbrev lo (j : Fin 1024) : Fin 5120 := ⟨j, by omega⟩
/-- A column of the second group, among all 5120. -/
abbrev hi (j : Fin 4096) : Fin 5120 := ⟨1024 + j, by omega⟩

/-- The 64 inner products of a row with the first weight matrix, group by group. -/
def hidden (zu : Fin 1024 → EReal) (zv : Fin 4096 → EReal) (wv : Fin 64 → Fin 5120 → EReal) (k : Fin 64) : EReal :=
  ∑ j, zu j * wv k (lo j) + ∑ j, zv j * wv k (hi j)

/-- One layer's first 1024 columns: back through the second weight matrix, negatives cut to zero, the row added. -/
def left (zu : Fin 1024 → EReal) (zv : Fin 4096 → EReal) (wu : Fin 5120 → Fin 64 → EReal) (wv : Fin 64 → Fin 5120 → EReal)
    (j : Fin 1024) : EReal :=
  max (∑ k, hidden zu zv wv k * wu (lo j) k) 0 + zu j

/-- One layer's last 4096 columns. -/
def right (zu : Fin 1024 → EReal) (zv : Fin 4096 → EReal) (wu : Fin 5120 → Fin 64 → EReal) (wv : Fin 64 → Fin 5120 → EReal)
    (j : Fin 4096) : EReal :=
  max (∑ k, hidden zu zv wv k * wu (hi j) k) 0 + zv j

/-- Both layers, the first 1024 columns. -/
def left2 (zu : Fin 1024 → EReal) (zv : Fin 4096 → EReal) (wu0 : Fin 5120 → Fin 64 → EReal) (wv0 : Fin 64 → Fin 5120 → EReal)
    (wu1 : Fin 5120 → Fin 64 → EReal) (wv1 : Fin 64 → Fin 5120 → EReal) : Fin 1024 → EReal :=
  left (left zu zv wu0 wv0) (right zu zv wu0 wv0) wu1 wv1

/-- Both layers, the last 4096 columns. -/
def right2 (zu : Fin 1024 → EReal) (zv : Fin 4096 → EReal) (wu0 : Fin 5120 → Fin 64 → EReal) (wv0 : Fin 64 → Fin 5120 → EReal)
    (wu1 : Fin 5120 → Fin 64 → EReal) (wv1 : Fin 64 → Fin 5120 → EReal) : Fin 4096 → EReal :=
  right (left zu zv wu0 wv0) (right zu zv wu0 wv0) wu1 wv1

/-- One layer on a row of 5120 columns, with its bias. -/
def whole (z : Fin 5120 → EReal) (wu : Fin 5120 → Fin 64 → EReal) (wv : Fin 64 → Fin 5120 → EReal) (b : Fin 5120 → EReal)
    (j : Fin 5120) : EReal :=
  max (∑ k, (∑ i, z i * wv k i) * wu j k + b j) 0 + z j

/-- A sum over all columns is the sum over the first group plus the sum over the second. -/
theorem sum_groups (f : Fin 5120 → EReal) : ∑ i, f i = ∑ j : Fin 1024, f (lo j) + ∑ j : Fin 4096, f (hi j) :=
  Fin.sum_univ_add (a := 1024) (b := 4096) f

/-- With a zero bias, the layer on the whole row is the first group's layer at a column of the first group, -/
theorem whole_lo (z : Fin 5120 → EReal) (wu : Fin 5120 → Fin 64 → EReal) (wv : Fin 64 → Fin 5120 → EReal) (b : Fin 5120 → EReal)
    (hb : ∀ j, b j = 0) (j : Fin 1024) : whole z wu wv b (lo j) = left (fun j => z (lo j)) (fun j => z (hi j)) wu wv j := by
  simp only [whole, left, hidden, hb, add_zero, sum_groups]

/-- and the second group's at a column of the second. -/
theorem whole_hi (z : Fin 5120 → EReal) (wu : Fin 5120 → Fin 64 → EReal) (wv : Fin 64 → Fin 5120 → EReal) (b : Fin 5120 → EReal)
    (hb : ∀ j, b j = 0) (j : Fin 4096) : whole z wu wv b (hi j) = right (fun j => z (lo j)) (fun j => z (hi j)) wu wv j := by
  simp only [whole, right, hidden, hb, add_zero, sum_groups]

/-- Two layers on the whole row, with zero biases, at a column of the first group, -/
theorem whole2_lo (z : Fin 5120 → EReal) (wu0 wu1 : Fin 5120 → Fin 64 → EReal) (wv0 wv1 : Fin 64 → Fin 5120 → EReal)
    (b0 b1 : Fin 5120 → EReal) (h0 : ∀ j, b0 j = 0) (h1 : ∀ j, b1 j = 0) (j : Fin 1024) :
    whole (whole z wu0 wv0 b0) wu1 wv1 b1 (lo j) = left2 (fun j => z (lo j)) (fun j => z (hi j)) wu0 wv0 wu1 wv1 j := by
  rw [whole_lo _ _ _ _ h1, left2]
  simp only [whole_lo _ _ _ _ h0, whole_hi _ _ _ _ h0]

/-- and at a column of the second. -/
theorem whole2_hi (z : Fin 5120 → EReal) (wu0 wu1 : Fin 5120 → Fin 64 → EReal) (wv0 wv1 : Fin 64 → Fin 5120 → EReal)
    (b0 b1 : Fin 5120 → EReal) (h0 : ∀ j, b0 j = 0) (h1 : ∀ j, b1 j = 0) (j : Fin 4096) :
    whole (whole z wu0 wv0 b0) wu1 wv1 b1 (hi j) = right2 (fun j => z (lo j)) (fun j => z (hi j)) wu0 wv0 wu1 wv1 j := by
  rw [whole_hi _ _ _ _ h1, right2]
  simp only [whole_lo _ _ _ _ h0, whole_hi _ _ _ _ h0]

end Cert.Layers

end
-- ==== Proof.Whole.Reference.Value.lean ====
/- The reference's values over the extended reals: its loop computes each column's mean and sum of squared
   differences, and its results are the two layers applied to the normalised array. -/
module

public import proofs.«01_k».proof.Proof.Whole.Reference.Run
public import proofs.«01_k».proof.Proof.Whole.Reals
public import proofs.«01_k».proof.Proof.Whole.Layers
public import Idealize.ShloMosaic.Lib.Pointwise
public import Idealize.ShloMosaic.Lib.DynamicIndex

@[expose] public section

set_option maxRecDepth 16384

noncomputable section

namespace Cert.ReferenceIdeal.Whole

open Cert.ReferenceIdeal Cert.ReferenceIdeal.Gen Cert.ReferenceIdeal.Value
open Idealize.ShloMosaic Idealize.ShloMosaic.TcCoe Idealize.ShloMosaic.Tactic
open Idealize.ShloMosaic.StableHlo

/-- The row a trip reads, as the body reads it: at the trip's counter. -/
def rowOf (x4 : FVec Ideal S16383x5120 .f32) (ctr : IVec S_ 32) : FVec Ideal S5120 .f32 :=
  shapeCast S5120 (Host.dynamicSlice S1x5120 x4 (fun k => (((![ctr, constantI S_ 32 0#32] : Fin 2 → IVec S_ 32)) k (Shape.Idx.first h_S_)).toInt) sliceFits_S16383x5120_S1x5120) shapeCasts_S1x5120_S5120

/-- The count after a trip. -/
def countOf (n : FVec Ideal S_ .f32) : FVec Ideal S_ .f32 := addf n (constant S_ .f32 0x3F800000#32)

/-- The running mean after a trip. -/
def meanOf (row mean : FVec Ideal S5120 .f32) (n : FVec Ideal S_ .f32) : FVec Ideal S5120 .f32 :=
  addf mean (Host.divf (subf row mean) (broadcastInDim S5120 ![] bcast_S_S5120 (countOf n)))

/-- The running sum of squared differences after a trip. -/
def spreadOf (row mean s : FVec Ideal S5120 .f32) (n : FVec Ideal S_ .f32) : FVec Ideal S5120 .f32 :=
  addf s (mulf (subf row mean) (subf row (meanOf row mean n)))

variable (m : (ℓ : Loc nD τ sig) → Buf (Elt Ideal) ℓ)

/-- The rows the loop walks, as carried. -/
def rowsC (c : Dev nD) (k : ℕ) : FVec Ideal S16383x5120 .f32 := carried m c k (Proc.devRef .tc main_v5_0)
/-- The counter, as carried. -/
def ctrC (c : Dev nD) (k : ℕ) : IVec S_ 32 := carried m c k (Proc.devRef .tc main_v5_1)
/-- The running mean, as carried. -/
def meanC (c : Dev nD) (k : ℕ) : FVec Ideal S5120 .f32 := carried m c k (Proc.devRef .tc main_v5_2)
/-- The running sum of squared differences, as carried. -/
def spreadC (c : Dev nD) (k : ℕ) : FVec Ideal S5120 .f32 := carried m c k (Proc.devRef .tc main_v5_3)
/-- The count, as carried. -/
def countC (c : Dev nD) (k : ℕ) : FVec Ideal S_ .f32 := carried m c k (Proc.devRef .tc main_v5_4)

/-- A pass leaves the rows unchanged. -/
theorem rowsC_succ (c : Dev nD) (k : ℕ) : rowsC m c (k + 1) = rowsC m c k := by
  unfold rowsC; rw [carried_succ, STEP_main_v5_0]
/-- A pass adds one to the counter. -/
theorem ctrC_succ (c : Dev nD) (k : ℕ) : ctrC m c (k + 1) = addi (ctrC m c k) (constantI S_ 32 1#32) := by
  unfold ctrC; rw [carried_succ, STEP_main_v5_1]; rfl
/-- A pass moves the sample count on by one. -/
theorem countC_succ (c : Dev nD) (k : ℕ) : countC m c (k + 1) = countOf (countC m c k) := by
  unfold countC; rw [carried_succ, STEP_main_v5_4]; rfl
/-- A pass takes the running mean one sample further. -/
theorem meanC_succ (c : Dev nD) (k : ℕ) :
    meanC m c (k + 1) = meanOf (rowOf (rowsC m c k) (ctrC m c k)) (meanC m c k) (countC m c k) := by
  unfold meanC; rw [carried_succ, STEP_main_v5_2]; rfl
/-- A pass takes the running sum of squared deviations one sample further. -/
theorem spreadC_succ (c : Dev nD) (k : ℕ) :
    spreadC m c (k + 1) = spreadOf (rowOf (rowsC m c k) (ctrC m c k)) (meanC m c k) (spreadC m c k) (countC m c k) := by
  unfold spreadC; rw [carried_succ, STEP_main_v5_3]; rfl

/-- The wide array the reference normalises. -/
abbrev wideIn (c : Dev nD) : FVec Ideal S16384x5120 .f32 :=
  joined (F := Ideal) (m ((c.tc : Thread nD τ).loc main_arg0)) (m ((c.tc : Thread nD τ).loc main_arg1))

/-- The carried rows are all rows but the first, at every trip. -/
theorem rowsC_eq (c : Dev nD) : ∀ k, rowsC m c k
    = extractStridedSlice S16383x5120 ![1, 0] (wideIn m c) slices_S16384x5120_S16383x5120_1_0
  | 0 => entry_v5_0 m c
  | k + 1 => (rowsC_succ m c k).trans (rowsC_eq c k)

/-- The counter is the number of trips done. -/
theorem ctrC_eq (c : Dev nD) : ∀ k, ctrC m c k = fun _ => BitVec.ofNat 32 k
  | 0 => ctr_entry m c
  | k + 1 => by
    rw [ctrC_succ, ctrC_eq c k]
    funext i
    show BitVec.ofNat 32 k + 1#32 = BitVec.ofNat 32 (k + 1)
    exact (BitVec.ofNat_add k 1).symm

/-- The row trip `k` reads is row `k + 1` of the wide array. -/
theorem row_apply (c : Dev nD) {k : ℕ} (hk : k < 16383) (j : Fin 5120) :
    rowOf (rowsC m c k) (ctrC m c k) (ix1 j) = wideIn m c (ix2 ⟨k + 1, by omega⟩ j) := by
  rw [rowsC_eq, ctrC_eq]
  unfold rowOf
  have hs : S16383x5120.Slices ![k, 0] S1x5120 := by
    refine ⟨rfl, fun a => ?_⟩
    match a with
    | ⟨0, _⟩ => show k + 1 ≤ 16383; omega
    | ⟨1, _⟩ => show 0 + 5120 ≤ 5120; omega
  rw [Host.dynamicSlice_eq_extractStridedSlice S1x5120 _ _ ![k, 0] _ hs (fun a => ?_)]
  · pointwise
    congr 2
    exact Fin.ext (Nat.add_comm 1 k)
  · match a with
    | ⟨0, _⟩ =>
      show (BitVec.ofNat 32 k).toInt = (k : Int)
      exact toInt_ofNat_of_lt (by omega)
    | ⟨1, _⟩ => rfl

open Cert.Moments

variable (c : Dev nD) (X : Fin 5120 → ℕ → ℝ)

/-- The loop's carried values after `k` trips: the count, the mean and the sum of squared differences of the first `k + 1` rows. -/
theorem carried_eq (hX : ∀ (r : Fin 16384) (j : Fin 5120), wideIn m c (ix2 r j) = ((X j r : ℝ) : EReal)) :
    ∀ k, k ≤ 16383 → countC m c k ix0 = (((k : ℝ) + 1 : ℝ) : EReal)
      ∧ (∀ j, meanC m c k (ix1 j) = ((mean (X j) (k + 1) : ℝ) : EReal))
      ∧ (∀ j, spreadC m c k (ix1 j) = ((spread (X j) (k + 1) : ℝ) : EReal))
  | 0, _ => by
    refine ⟨?_, fun j => ?_, fun j => ?_⟩
    · rw [show countC m c 0 = constant (F := Ideal) S_ .f32 0x3F800000#32 from entry_v5_4 m c]
      pointwise
      norm_num
    · rw [show meanC m c 0 = _ from entry_v5_2 m c]
      pointwise
      rw [Moments.mean_one]
      exact hX 0 j
    · rw [show spreadC m c 0 = _ from entry_v5_3 m c]
      pointwise
      rw [Moments.spread_one, EReal.coe_zero]
  | k + 1, hk => by
    obtain ⟨hn, hm, hs⟩ := carried_eq hX k (by omega)
    have hk' : k < 16383 := by omega
    have hrow : ∀ j, rowOf (rowsC m c k) (ctrC m c k) (ix1 j) = ((X j (k + 1) : ℝ) : EReal) := fun j =>
      (row_apply m c hk' j).trans (hX _ j)
    have hc : countC m c (k + 1) ix0 = (((k + 1 : ℕ) : ℝ) + 1 : ℝ) := by
      rw [countC_succ]
      pointwise [countOf]
      rw [hn, ← EReal.coe_one, ← EReal.coe_add]
      push_cast
      rfl
    have hne : (((k + 1 : ℕ) : ℝ) + 1) ≠ 0 := by positivity
    have hmean : ∀ j, meanC m c (k + 1) (ix1 j) = ((mean (X j) (k + 1 + 1) : ℝ) : EReal) := fun j => by
      rw [meanC_succ]
      have e : countOf (countC m c k) ix0 = (((k + 1 : ℕ) : ℝ) + 1 : ℝ) := (congrFun (countC_succ m c k) ix0).symm.trans hc
      pointwise [meanOf]
      rw [e, hrow, hm, ← EReal.coe_sub, div_coe_coe _ _ hne, ← EReal.coe_add, Moments.mean_succ (X j) (Nat.succ_pos k)]
    refine ⟨hc, hmean, fun j => ?_⟩
    have e2 : meanOf (rowOf (rowsC m c k) (ctrC m c k)) (meanC m c k) (countC m c k) (ix1 j) = ((mean (X j) (k + 1 + 1) : ℝ) : EReal) :=
      (congrFun (meanC_succ m c k) (ix1 j)).symm.trans (hmean j)
    rw [spreadC_succ]
    pointwise [spreadOf]
    rw [e2, hrow, hm, hs, ← EReal.coe_sub, ← EReal.coe_sub, ← EReal.coe_mul, ← EReal.coe_add, Moments.spread_succ (X j) (Nat.succ_pos k)]

/-- The reference's normalised array. -/
theorem norm_apply (hX : ∀ (r : Fin 16384) (j : Fin 5120), wideIn m c (ix2 r j) = ((X j r : ℝ) : EReal)) (r : Fin 16384) (j : Fin 5120) :
    normOf (F := Ideal) (wideIn m c) (meanC m c 16383) (spreadC m c 16383) (countC m c 16383) (ix2 r j) = ((scaled (X j) r : ℝ) : EReal) := by
  obtain ⟨hn, hm, hs⟩ := carried_eq m c X hX 16383 le_rfl
  have h0 : (0 : ℝ) ≤ spread (X j) 16384 * (1 / 16383) := mul_nonneg (Moments.spread_nonneg _ _ (by norm_num)) (by norm_num)
  have hn' : countC m c 16383 ix0 - 1 = ((16383 : ℝ) : EReal) := by
    rw [hn, ← EReal.coe_one, ← EReal.coe_sub]
    norm_num
  pointwise [normOf]
  rw [hn', hm, hs, hX, eps_bits, div_coe_coe _ _ (by norm_num), sqrt_coe_nonneg h0, ← EReal.coe_add, ← EReal.coe_sub]
  exact div_coe_coe _ _ (Moments.width_pos (X j)).ne'

/-- A layer at a row is the layer on that row. -/
theorem layerOf_apply (x : FVec Ideal S16384x5120 .f32) (wu : FVec Ideal S5120x64 .f32) (wv : FVec Ideal S64x5120 .f32) (b : FVec Ideal S5120 .f32)
    (r : Fin 16384) (j : Fin 5120) :
    layerOf (F := Ideal) x wu wv b (ix2 r j)
      = Layers.whole (fun j => x (ix2 r j)) (fun j k => wu (ix2 j k)) (fun k j => wv (ix2 k j)) (fun j => b (ix1 j)) j := by
  pointwise [layerOf, Layers.whole]

/-- The loop's results lead the normalised array through both layers: a row of the wide result. -/
theorem wide_apply (hX : ∀ (r : Fin 16384) (j : Fin 5120), wideIn m c (ix2 r j) = ((X j r : ℝ) : EReal)) (r : Fin 16384) (j : Fin 5120) :
    wide (F := Ideal) m c (ix2 r j)
      = Layers.whole (Layers.whole (fun j => ((scaled (X j) r : ℝ) : EReal))
            (fun j k => (m ((c.tc : Thread nD τ).loc main_arg2) : FVec Ideal S5120x64 .f32) (ix2 j k)) (fun k j => (m ((c.tc : Thread nD τ).loc main_arg3) : FVec Ideal S64x5120 .f32) (ix2 k j))
            (fun j => (m ((c.tc : Thread nD τ).loc main_arg4) : FVec Ideal S5120 .f32) (ix1 j)))
          (fun j k => (m ((c.tc : Thread nD τ).loc main_arg5) : FVec Ideal S5120x64 .f32) (ix2 j k)) (fun k j => (m ((c.tc : Thread nD τ).loc main_arg6) : FVec Ideal S64x5120 .f32) (ix2 k j))
          (fun j => (m ((c.tc : Thread nD τ).loc main_arg7) : FVec Ideal S5120 .f32) (ix1 j)) j := by
  have e : (fun j => normOf (F := Ideal) (wideIn m c) (meanC m c 16383) (spreadC m c 16383) (countC m c 16383) (ix2 r j))
      = fun j => ((scaled (X j) r : ℝ) : EReal) := funext fun j => norm_apply m c X hX r j
  unfold wide
  rw [layerOf_apply]
  simp only [layerOf_apply]
  rw [← e]
  rfl

/-- The wide array's columns: the first argument's, then the second's. -/
theorem wideIn_lo (r : Fin 16384) (j : Fin 1024) :
    wideIn m c (ix2 r (Layers.lo j)) = (m ((c.tc : Thread nD τ).loc main_arg0) : FVec Ideal S16384x1024 .f32) (ix2 r j) := by
  pointwise [joined]
/-- The last 4096 columns of the concatenated rows are those of the second argument. -/
theorem wideIn_hi (r : Fin 16384) (j : Fin 4096) :
    wideIn m c (ix2 r (Layers.hi j)) = (m ((c.tc : Thread nD τ).loc main_arg1) : FVec Ideal S16384x4096 .f32) (ix2 r j) := by
  pointwise [joined]

/-- The two results are the wide result's column groups. -/
theorem leftOf_apply (x : FVec Ideal S16384x5120 .f32) (r : Fin 16384) (j : Fin 1024) : leftOf (F := Ideal) x (ix2 r j) = x (ix2 r (Layers.lo j)) := by
  pointwise [leftOf]
/-- The second result holds the last 4096 columns. -/
theorem rightOf_apply (x : FVec Ideal S16384x5120 .f32) (r : Fin 16384) (j : Fin 4096) : rightOf (F := Ideal) x (ix2 r j) = x (ix2 r (Layers.hi j)) := by
  pointwise [rightOf]

end Cert.ReferenceIdeal.Whole

end
-- ==== Proof.Whole.Reference.Result.lean ====
/- The reference's two results over the extended reals, for real inputs and zero biases. -/
module

public import proofs.«01_k».proof.Proof.Whole.Reference.Value
public import Idealize.ShloMosaic.Lib.Quiescent

@[expose] public section

set_option maxRecDepth 16384

noncomputable section

namespace Cert.ReferenceIdeal.Whole

open Cert.ReferenceIdeal Cert.ReferenceIdeal.Gen
open Idealize.ShloMosaic Idealize.ShloMosaic.TcCoe Idealize.ShloMosaic.Tactic
open Cert.Moments

/-- The columns of both groups, one after the other. -/
def columns (A : Fin 1024 → ℕ → ℝ) (B : Fin 4096 → ℕ → ℝ) (j : Fin 5120) : ℕ → ℝ :=
  if h : j.val < 1024 then A ⟨j, h⟩ else B ⟨j - 1024, by omega⟩

/-- A column of the first group. -/
theorem columns_lo (A : Fin 1024 → ℕ → ℝ) (B : Fin 4096 → ℕ → ℝ) (j : Fin 1024) : columns A B (Layers.lo j) = A j :=
  dif_pos j.isLt
/-- A column of the second group. -/
theorem columns_hi (A : Fin 1024 → ℕ → ℝ) (B : Fin 4096 → ℕ → ℝ) (j : Fin 4096) : columns A B (Layers.hi j) = B j :=
  (dif_neg (show ¬1024 + j.val < 1024 by omega)).trans (congrArg B (Fin.ext (Nat.add_sub_cancel_left 1024 j)))

/-- Every column among all 5120 is in one of the groups. -/
theorem lo_or_hi (j : Fin 5120) : (∃ i, j = Layers.lo i) ∨ ∃ i, j = Layers.hi i := by
  by_cases h : j.val < 1024
  · exact .inl ⟨⟨j, h⟩, rfl⟩
  · exact .inr ⟨⟨j - 1024, by omega⟩, Fin.ext (show j.val = 1024 + (j.val - 1024) by omega)⟩

variable (m : (ℓ : Loc nD τ sig) → Buf (Elt Ideal) ℓ) (c : Dev nD)
variable (A : Fin 1024 → ℕ → ℝ) (B : Fin 4096 → ℕ → ℝ)

/-- The wide array's entries, from the two arguments'. -/
theorem wideIn_eq (hA : ∀ (r : Fin 16384) (j : Fin 1024), m ((c.tc : Thread nD τ).loc main_arg0) (ix2 r j) = ((A j r : ℝ) : EReal))
    (hB : ∀ (r : Fin 16384) (j : Fin 4096), m ((c.tc : Thread nD τ).loc main_arg1) (ix2 r j) = ((B j r : ℝ) : EReal))
    (r : Fin 16384) (j : Fin 5120) : wideIn m c (ix2 r j) = ((columns A B j r : ℝ) : EReal) := by
  rcases lo_or_hi j with ⟨i, rfl⟩ | ⟨i, rfl⟩
  · rw [columns_lo]; exact (wideIn_lo m c r i).trans (hA r i)
  · rw [columns_hi]; exact (wideIn_hi m c r i).trans (hB r i)

/-- The first result, at an entry. -/
theorem resultU (hA : ∀ (r : Fin 16384) (j : Fin 1024), m ((c.tc : Thread nD τ).loc main_arg0) (ix2 r j) = ((A j r : ℝ) : EReal))
    (hB : ∀ (r : Fin 16384) (j : Fin 4096), m ((c.tc : Thread nD τ).loc main_arg1) (ix2 r j) = ((B j r : ℝ) : EReal))
    (h0 : ∀ j : Fin 5120, m ((c.tc : Thread nD τ).loc main_arg4) (ix1 j) = (0 : EReal))
    (h1 : ∀ j : Fin 5120, m ((c.tc : Thread nD τ).loc main_arg7) (ix1 j) = (0 : EReal)) (r : Fin 16384) (j : Fin 1024) :
    leftOf (F := Ideal) (wide m c) (ix2 r j)
      = Layers.left2 (fun j => ((scaled (A j) r : ℝ) : EReal)) (fun j => ((scaled (B j) r : ℝ) : EReal))
          (fun j k => (m ((c.tc : Thread nD τ).loc main_arg2) : FVec Ideal S5120x64 .f32) (ix2 j k)) (fun k j => (m ((c.tc : Thread nD τ).loc main_arg3) : FVec Ideal S64x5120 .f32) (ix2 k j))
          (fun j k => (m ((c.tc : Thread nD τ).loc main_arg5) : FVec Ideal S5120x64 .f32) (ix2 j k)) (fun k j => (m ((c.tc : Thread nD τ).loc main_arg6) : FVec Ideal S64x5120 .f32) (ix2 k j)) j := by
  rw [leftOf_apply, wide_apply m c (columns A B) (wideIn_eq m c A B hA hB)]
  refine (Layers.whole2_lo _ _ _ _ _ _ _ h0 h1 j).trans ?_
  simp only [columns_lo, columns_hi]

/-- The second result, at an entry. -/
theorem resultV (hA : ∀ (r : Fin 16384) (j : Fin 1024), m ((c.tc : Thread nD τ).loc main_arg0) (ix2 r j) = ((A j r : ℝ) : EReal))
    (hB : ∀ (r : Fin 16384) (j : Fin 4096), m ((c.tc : Thread nD τ).loc main_arg1) (ix2 r j) = ((B j r : ℝ) : EReal))
    (h0 : ∀ j : Fin 5120, m ((c.tc : Thread nD τ).loc main_arg4) (ix1 j) = (0 : EReal))
    (h1 : ∀ j : Fin 5120, m ((c.tc : Thread nD τ).loc main_arg7) (ix1 j) = (0 : EReal)) (r : Fin 16384) (j : Fin 4096) :
    rightOf (F := Ideal) (wide m c) (ix2 r j)
      = Layers.right2 (fun j => ((scaled (A j) r : ℝ) : EReal)) (fun j => ((scaled (B j) r : ℝ) : EReal))
          (fun j k => (m ((c.tc : Thread nD τ).loc main_arg2) : FVec Ideal S5120x64 .f32) (ix2 j k)) (fun k j => (m ((c.tc : Thread nD τ).loc main_arg3) : FVec Ideal S64x5120 .f32) (ix2 k j))
          (fun j k => (m ((c.tc : Thread nD τ).loc main_arg5) : FVec Ideal S5120x64 .f32) (ix2 j k)) (fun k j => (m ((c.tc : Thread nD τ).loc main_arg6) : FVec Ideal S64x5120 .f32) (ix2 k j)) j := by
  rw [rightOf_apply, wide_apply m c (columns A B) (wideIn_eq m c A B hA hB)]
  refine (Layers.whole2_hi _ _ _ _ _ _ _ h0 h1 j).trans ?_
  simp only [columns_lo, columns_hi]

/-- The frame: the arguments end as launched, and there is no counter to move. -/
theorem frame (ρ : Dev nD → PrngReg) : θ_run (defs (F := Ideal)) (onTc (τ := τ) (main (F := Ideal))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run _ _ _).mono (fun r h => ⟨fun c => (h c).2.2, Idealize.ShloMosaic.sem_eq_zero_of_no_sems (by decide) r.2⟩) (run_all m ρ)

end Cert.ReferenceIdeal.Whole

end
-- ==== Proof.Whole.Pre.lean ====
/- What the precondition says over the extended reals: the two inputs are real numbers and the two biases are zero. -/
module

public import proofs.«01_k».proof.Pre_finite_zero_bias
public import Idealize.ShloMosaic.Lib.Pointwise
public import Idealize.ShloMosaic.Lib.ReduceAll

@[expose] public section

set_option maxRecDepth 16384

noncomputable section

namespace Cert.Pre_finite_zero_bias

open Idealize.ShloMosaic Idealize.ShloMosaic.Tactic
open Facts

/-- A truth value written as one bit is one exactly when it is true. -/
theorem bit_eq_one {b : Bool} (h : BitVec.ofBool b = 1#1) : b = true := by
  cases b
  · exact absurd h (by decide)
  · rfl

/-- An extended real whose absolute value is below infinity is a real number. -/
theorem real_of_bit {x : EReal} (h : BitVec.ofBool (decide (FloatOps.absf (F := Ideal) (φ := .f32) x < Ideal.ofBits FTy.f32 0x7F800000#32)) = 1#1) :
    x = ((x.toReal : ℝ) : EReal) := by
  have h1 : max x (-x) < Ideal.ofBits FTy.f32 0x7F800000#32 := of_decide_eq_true (bit_eq_one h)
  have ht : Ideal.ofBits FTy.f32 0x7F800000#32 = ⊤ := by simp [Ideal.ofBits, Ideal.ieee]
  rw [ht] at h1
  obtain ⟨h2, h3⟩ := max_lt_iff.mp h1
  refine (EReal.coe_toReal h2.ne ?_).symm
  rintro rfl
  exact absurd h3 (by simp)

variable [Facts]

/-- The array of one element has one index. -/
instance : Subsingleton S_.Idx := ⟨fun a b => funext fun k => k.elim0⟩

/-- Under the precondition every entry of the two inputs is real and every entry of the two biases is zero. -/
theorem decode (u : FVec Ideal S16384x1024 .f32) (v : FVec Ideal S16384x4096 .f32) (wu0 : FVec Ideal S5120x64 .f32) (wv0 : FVec Ideal S64x5120 .f32)
    (b0 : FVec Ideal S5120 .f32) (wu1 : FVec Ideal S5120x64 .f32) (wv1 : FVec Ideal S64x5120 .f32) (b1 : FVec Ideal S5120 .f32)
    (h : fn (F := Ideal) u v wu0 wv0 b0 wu1 wv1 b1 = fun _ => 1#1) :
    (∀ r j, u (ix2 r j) = (((u (ix2 r j) : EReal).toReal : ℝ) : EReal)) ∧ (∀ r j, v (ix2 r j) = (((v (ix2 r j) : EReal).toReal : ℝ) : EReal))
      ∧ (∀ j, b0 (ix1 j) = (0 : EReal)) ∧ (∀ j, b1 (ix1 j) = (0 : EReal)) := by
  have h := congrFun h ix0
  unfold fn fn_part1 at h
  obtain ⟨h, e4⟩ := IntOp.andi_eq_one.1 h
  obtain ⟨h, e3⟩ := IntOp.andi_eq_one.1 h
  obtain ⟨e1, e2⟩ := IntOp.andi_eq_one.1 h
  refine ⟨fun r j => ?_, fun r j => ?_, fun j => ?_, fun j => ?_⟩
  · have e := Host.reduce_andi_all _ _ _ _ _ e1 (ix2 r j)
    pointwise at e
    exact real_of_bit e
  · have e := Host.reduce_andi_all _ _ _ _ _ e2 (ix2 r j)
    pointwise at e
    exact real_of_bit e
  · have e := Host.reduce_andi_all _ _ _ _ _ e3 (ix1 j)
    pointwise at e
    exact of_decide_eq_true (bit_eq_one e)
  · have e := Host.reduce_andi_all _ _ _ _ _ e4 (ix1 j)
    pointwise at e
    exact of_decide_eq_true (bit_eq_one e)

end Cert.Pre_finite_zero_bias

end
-- ==== Proof.Whole.KernelIdeal.StatsValue.lean ====
/- What the first call computes over the extended reals: each column's mean and reciprocal width. -/
module

public import proofs.«01_k».proof.Proof.Whole.KernelIdeal.StatsBody
public import proofs.«01_k».proof.Proof.Whole.Reals
public import Idealize.ShloMosaic.Lib.Pointwise
public import Idealize.ShloMosaic.Lib.Pipeline.ValueKit

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Cert.Moments

/-- The named constant is the reciprocal of the number of rows less one. -/
theorem named_eq : Named.named (F := Ideal) (φ := .f32) κ "inv_nm1" 0x38800200#32 = ((1 / 16383 : ℝ) : EReal) :=
  IdealRules.named_const.ideal_named_scalar _ _ _ _ rfl

/-! ## The four accumulators' steps and the four final values, at a column -/

section Payloads
variable (x : Vec Ideal S512x1024 .f32) (y : Vec Ideal S512x4096 .f32) (s q : FVec Ideal S1x1024 .f32) (s' q' : FVec Ideal S1x4096 .f32)

/-- A step adds its block's column sums to the first columns' totals. -/
theorem sumU_apply (j : Fin 1024) : k0_pay10 (F := Ideal) x s (ix2 0 j) = s (ix2 0 j) + ∑ i, x (ix2 i j) := by pointwise [k0_pay10]
/-- A step adds its block's sums of squares to the first columns' totals of squares. -/
theorem sqU_apply (j : Fin 1024) : k0_pay11 (F := Ideal) x s (ix2 0 j) = s (ix2 0 j) + ∑ i, x (ix2 i j) * x (ix2 i j) := by pointwise [k0_pay11]
/-- A step adds its block's column sums to the last columns' totals. -/
theorem sumV_apply (j : Fin 4096) : k0_pay12 (F := Ideal) y s' (ix2 0 j) = s' (ix2 0 j) + ∑ i, y (ix2 i j) := by pointwise [k0_pay12]
/-- A step adds its block's sums of squares to the last columns' totals of squares. -/
theorem sqV_apply (j : Fin 4096) : k0_pay1 (F := Ideal) s' (k0_pay13 y) (ix2 0 j) = s' (ix2 0 j) + ∑ i, y (ix2 i j) * y (ix2 i j) := by
  pointwise [k0_pay1, k0_pay13]
/-- From a total over all rows the last step computes the mean, for the first columns. -/
theorem meanU_apply (X : ℕ → ℝ) (j : Fin 1024) (hs : s (ix2 0 j) = ((total X 16384 : ℝ) : EReal)) :
    k0_pay2 (F := Ideal) s (ix2 0 j) = ((mean X 16384 : ℝ) : EReal) := by
  pointwise [k0_pay2]
  rw [hs, rows_bits, mean_eq]
/-- From a total over all rows the last step computes the mean, for the last columns. -/
theorem meanV_apply (X : ℕ → ℝ) (j : Fin 4096) (hs : s' (ix2 0 j) = ((total X 16384 : ℝ) : EReal)) :
    k0_pay4 (F := Ideal) s' (ix2 0 j) = ((mean X 16384 : ℝ) : EReal) := by
  pointwise [k0_pay4]
  rw [hs, rows_bits, mean_eq]
/-- From the two totals the last step computes the reciprocal of the width, for the first columns. -/
theorem recipU_apply (X : ℕ → ℝ) (j : Fin 1024) (hs : s (ix2 0 j) = ((total X 16384 : ℝ) : EReal))
    (hq : q (ix2 0 j) = ((total (fun i => X i * X i) 16384 : ℝ) : EReal)) :
    k0_pay3 (F := Ideal) s q (ix2 0 j) = ((1 / width X : ℝ) : EReal) := by
  pointwise [k0_pay3]
  rw [meanU_apply s X j hs, hs, hq, named_eq, eps_bits, recip_eq]
/-- From the two totals the last step computes the reciprocal of the width, for the last columns. -/
theorem recipV_apply (X : ℕ → ℝ) (j : Fin 4096) (hs : s' (ix2 0 j) = ((total X 16384 : ℝ) : EReal))
    (hq : q' (ix2 0 j) = ((total (fun i => X i * X i) 16384 : ℝ) : EReal)) :
    k0_pay5 (F := Ideal) s' q' (ix2 0 j) = ((1 / width X : ℝ) : EReal) := by
  pointwise [k0_pay5]
  rw [meanV_apply s' X j hs, hs, hq, named_eq, eps_bits, recip_eq]

end Payloads

/-! ## The blocks -/

/-- Where the two inputs' blocks lie at each point: block `t` of the rows, all columns. -/
theorem at_rows0 : ∀ t : Fin cfg0.N, (win0_0.index t 0 = t.val ∧ win0_0.index t 1 = 0) ∧ (win0_1.index t 0 = t.val ∧ win0_1.index t 1 = 0) := by
  decide +kernel

section Arrays
variable (V : (c : Dev nD) → (b : Ref sig .tc) → Buf (Elt Ideal) ((c : Thread nD τ).loc b)) (c : Dev nD)
variable (A : Fin 1024 → ℕ → ℝ) (B : Fin 4096 → ℕ → ℝ)

/-- A row of the first input's block is that row of its array. -/
theorem blk0_0 (t : Fin cfg0.N) (r : Fin 512) (r' : Fin 16384) (hr : (r' : ℕ) = t.val * 512 + r) (j : Fin 1024) :
    iblk0 (F := Ideal) V c 0 t (ix2 r j) = V c main_arg0 (ix2 r' j) := by
  obtain ⟨⟨h0, h1⟩, -⟩ := at_rows0 t; blk_ext! [iblk0, h0, h1]
/-- A row of the second input's block is that row of its array. -/
theorem blk0_1 (t : Fin cfg0.N) (r : Fin 512) (r' : Fin 16384) (hr : (r' : ℕ) = t.val * 512 + r) (j : Fin 4096) :
    iblk0 (F := Ideal) V c 1 t (ix2 r j) = V c main_arg1 (ix2 r' j) := by
  obtain ⟨-, ⟨h0, h1⟩⟩ := at_rows0 t; blk_ext! [iblk0, h0, h1]

/-- The accumulators after `n` blocks hold the sums, and the sums of squares, of the first `512 n` rows. -/
theorem stAt_eq (hA : ∀ (r : Fin 16384) (j : Fin 1024), V c main_arg0 (ix2 r j) = ((A j r : ℝ) : EReal))
    (hB : ∀ (r : Fin 16384) (j : Fin 4096), V c main_arg1 (ix2 r j) = ((B j r : ℝ) : EReal)) : ∀ n, n ≤ 32 →
    (∀ j, (stAt (F := Ideal) V c n).su (ix2 0 j) = ((total (A j) (n * 512) : ℝ) : EReal))
    ∧ (∀ j, (stAt (F := Ideal) V c n).qu (ix2 0 j) = ((total (fun i => A j i * A j i) (n * 512) : ℝ) : EReal))
    ∧ (∀ j, (stAt (F := Ideal) V c n).sv (ix2 0 j) = ((total (B j) (n * 512) : ℝ) : EReal))
    ∧ (∀ j, (stAt (F := Ideal) V c n).qv (ix2 0 j) = ((total (fun i => B j i * B j i) (n * 512) : ℝ) : EReal))
  | 0, _ => by
    have z : ∀ X : ℕ → ℝ, ((total X (0 * 512) : ℝ) : EReal) = 0 := fun X => by simp [total]
    refine ⟨fun j => ?_, fun j => ?_, fun j => ?_, fun j => ?_⟩ <;> rw [z]
    · show k0_pay6 (F := Ideal) (ix2 0 j) = 0
      pointwise [k0_pay6]
    · show k0_pay7 (F := Ideal) (ix2 0 j) = 0
      pointwise [k0_pay7]
    · show k0_pay8 (F := Ideal) (ix2 0 j) = 0
      pointwise [k0_pay8]
    · show k0_pay9 (F := Ideal) (ix2 0 j) = 0
      pointwise [k0_pay9]
  | n + 1, hn => by
    obtain ⟨h1, h2, h3, h4⟩ := stAt_eq hA hB n (by omega)
    have hN : n < cfg0.N := Nat.lt_of_lt_of_eq (show n < 32 by omega) N_0.symm
    have ea : ∀ (i : Fin 512) (j : Fin 1024), iblk0 (F := Ideal) V c 0 ⟨n, hN⟩ (ix2 i j) = ((A j (n * 512 + i) : ℝ) : EReal) := fun i j =>
      (blk0_0 V c ⟨n, hN⟩ i ⟨n * 512 + i, by omega⟩ rfl j).trans (hA _ j)
    have eb : ∀ (i : Fin 512) (j : Fin 4096), iblk0 (F := Ideal) V c 1 ⟨n, hN⟩ (ix2 i j) = ((B j (n * 512 + i) : ℝ) : EReal) := fun i j =>
      (blk0_1 V c ⟨n, hN⟩ i ⟨n * 512 + i, by omega⟩ rfl j).trans (hB _ j)
    have e : n * 512 + 512 = (n + 1) * 512 := by ring
    rw [stAt_succ V c ⟨n, hN⟩, ← e]
    refine ⟨fun j => ?_, fun j => ?_, fun j => ?_, fun j => ?_⟩
    · exact (sumU_apply _ _ j).trans (by simp only [h1, ea]; exact total_block (A j) _ _)
    · exact (sqU_apply _ _ j).trans (by simp only [h2, ea, ← EReal.coe_mul]; exact total_block (fun i => A j i * A j i) _ _)
    · exact (sumV_apply _ _ j).trans (by simp only [h3, eb]; exact total_block (B j) _ _)
    · exact (sqV_apply _ _ j).trans (by simp only [h4, eb, ← EReal.coe_mul]; exact total_block (fun i => B j i * B j i) _ _)

/-- The last point. -/
abbrev tEnd : Fin cfg0.N := ⟨31, by decide⟩

/-- The state after the last block. -/
abbrev stEnd : St Ideal := stAt (F := Ideal) V c 32

/-- The four result arrays after the call: the final values of the last state. -/
theorem arr0_2 : (dat0 (F := Ideal) V c).arrAt 2 cfg0.N = k0_pay2 (stEnd V c).su := by
  refine (dat0 V c).arrAt_eq_of_after_last 2 tEnd (by decide +kernel) _ fun j => ?_
  blk_simp
  rw [after0_2]
/-- The second array that comes out is computed from the final totals of the first columns. -/
theorem arr0_3 : (dat0 (F := Ideal) V c).arrAt 3 cfg0.N = k0_pay3 (stEnd V c).su (stEnd V c).qu := by
  refine (dat0 V c).arrAt_eq_of_after_last 3 tEnd (by decide +kernel) _ fun j => ?_
  blk_simp
  rw [after0_3]
/-- The third array that comes out is computed from the final totals of the last columns. -/
theorem arr0_4 : (dat0 (F := Ideal) V c).arrAt 4 cfg0.N = k0_pay4 (stEnd V c).sv := by
  refine (dat0 V c).arrAt_eq_of_after_last 4 tEnd (by decide +kernel) _ fun j => ?_
  blk_simp
  rw [after0_4]
/-- The fourth array that comes out is computed from the final totals of the last columns. -/
theorem arr0_5 : (dat0 (F := Ideal) V c).arrAt 5 cfg0.N = k0_pay5 (stEnd V c).sv (stEnd V c).qv := by
  refine (dat0 V c).arrAt_eq_of_after_last 5 tEnd (by decide +kernel) _ fun j => ?_
  blk_simp
  rw [after0_5]

/-- The first group's means and reciprocal widths, then the second's. -/
theorem final_stats (hA : ∀ (r : Fin 16384) (j : Fin 1024), V c main_arg0 (ix2 r j) = ((A j r : ℝ) : EReal))
    (hB : ∀ (r : Fin 16384) (j : Fin 4096), V c main_arg1 (ix2 r j) = ((B j r : ℝ) : EReal)) :
    (∀ j, (dat0 (F := Ideal) V c).arrAt 2 cfg0.N (ix2 0 j) = ((mean (A j) 16384 : ℝ) : EReal))
    ∧ (∀ j, (dat0 (F := Ideal) V c).arrAt 3 cfg0.N (ix2 0 j) = ((1 / width (A j) : ℝ) : EReal))
    ∧ (∀ j, (dat0 (F := Ideal) V c).arrAt 4 cfg0.N (ix2 0 j) = ((mean (B j) 16384 : ℝ) : EReal))
    ∧ (∀ j, (dat0 (F := Ideal) V c).arrAt 5 cfg0.N (ix2 0 j) = ((1 / width (B j) : ℝ) : EReal)) := by
  obtain ⟨h1, h2, h3, h4⟩ := stAt_eq V c A B hA hB 32 le_rfl
  refine ⟨fun j => ?_, fun j => ?_, fun j => ?_, fun j => ?_⟩
  · rw [arr0_2]; exact meanU_apply _ (A j) j (h1 j)
  · rw [arr0_3]; exact recipU_apply _ _ (A j) j (h1 j) (h2 j)
  · rw [arr0_4]; exact meanV_apply _ (B j) j (h3 j)
  · rw [arr0_5]; exact recipV_apply _ _ (B j) j (h3 j) (h4 j)

end Arrays

end Cert.KernelIdeal.Whole

end
-- ==== Proof.Whole.KernelIdeal.MlpValue.lean ====
/- What the second call computes over the extended reals: every row of its block, normalised by the given means and
   reciprocal widths, through the two layers; and so every row of its result arrays. -/
module

public import proofs.«01_k».proof.Proof.Whole.KernelIdeal.MlpBody
public import proofs.«01_k».proof.Proof.Whole.Layers
public import Idealize.ShloMosaic.Lib.Pointwise
public import Idealize.ShloMosaic.Lib.Pipeline.ValueKit

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Cert.Layers

/-- A matrix of 5120 rows and 64 columns, by row and column. -/
abbrev tall (w : Vec Ideal S5120x64 .f32) : Fin 5120 → Fin 64 → EReal := fun j k => w (ix2 j k)
/-- A matrix of 64 rows and 5120 columns, by row and column. -/
abbrev flat (w : Vec Ideal S64x5120 .f32) : Fin 64 → Fin 5120 → EReal := fun k j => w (ix2 k j)

/-- The first layer formula's first column group, at a row. -/
theorem layU_apply (xu : FVec Ideal S128x1024 .f32) (xv : FVec Ideal S128x4096 .f32) (wu : Vec Ideal S5120x64 .f32) (wv : Vec Ideal S64x5120 .f32)
    (r : Fin 128) (j : Fin 1024) :
    layU (F := Ideal) xu xv wu wv (ix2 r j) = left (fun j => xu (ix2 r j)) (fun j => xv (ix2 r j)) (tall wu) (flat wv) j := by
  pointwise [layU, k1_pay9, k1_pay8, left, Layers.hidden]

/-- The layer formula's second column group, at a row. -/
theorem layV_apply (xu : FVec Ideal S128x1024 .f32) (xv : FVec Ideal S128x4096 .f32) (wu : Vec Ideal S5120x64 .f32) (wv : Vec Ideal S64x5120 .f32)
    (r : Fin 128) (j : Fin 4096) :
    layV (F := Ideal) xu xv wu wv (ix2 r j) = right (fun j => xu (ix2 r j)) (fun j => xv (ix2 r j)) (tall wu) (flat wv) j := by
  pointwise [layV, k1_pay10, k1_pay8, right, Layers.hidden]

section Block
variable (x0 : Vec Ideal S512x1024 .f32) (x1 : Vec Ideal S512x4096 .f32) (x2 x3 : Vec Ideal S1x1024 .f32) (x4 x5 : Vec Ideal S1x4096 .f32)
  (x6 : Vec Ideal S5120x64 .f32) (x7 : Vec Ideal S64x5120 .f32) (x8 : Vec Ideal S5120x64 .f32) (x9 : Vec Ideal S64x5120 .f32)

/-- An entry less its column's mean, times its column's reciprocal width. -/
def nrm {R C : ℕ} (x : Vec Ideal ⟨2, ![R, C]⟩ .f32) (mu sc : Vec Ideal ⟨2, ![1, C]⟩ .f32) (r : Fin R) (j : Fin C) : EReal :=
  (x (ix2 r j) - mu (ix2 0 j)) * sc (ix2 0 j)

/-- A sub-block's first result, at a row. -/
theorem subU_apply (a : Vec Ideal S128x1024 .f32) (b : Vec Ideal S128x4096 .f32) (r : Fin 128) (j : Fin 1024) :
    subU (F := Ideal) a b x2 x3 x4 x5 x6 x7 x8 x9 (ix2 r j)
      = left2 (nrm a x2 x3 r) (nrm b x4 x5 r) (tall x6) (flat x7) (tall x8) (flat x9) j := by
  have e1 : (fun j => k1_pay3 (F := Ideal) a (View.ld x2 rMu) (View.ld x3 rMu) (ix2 r j)) = nrm a x2 x3 r :=
    funext fun j => by pointwise [k1_pay3, nrm]
  have e2 : (fun j => k1_pay4 (F := Ideal) b (View.ld x4 rMv) (View.ld x5 rMv) (ix2 r j)) = nrm b x4 x5 r :=
    funext fun j => by pointwise [k1_pay4, nrm]
  unfold subU left2
  rw [layU_apply]
  simp only [layU_apply, layV_apply, e1, e2]

/-- A sub-block's second result, at a row. -/
theorem subV_apply (a : Vec Ideal S128x1024 .f32) (b : Vec Ideal S128x4096 .f32) (r : Fin 128) (j : Fin 4096) :
    subV (F := Ideal) a b x2 x3 x4 x5 x6 x7 x8 x9 (ix2 r j)
      = right2 (nrm a x2 x3 r) (nrm b x4 x5 r) (tall x6) (flat x7) (tall x8) (flat x9) j := by
  have e1 : (fun j => k1_pay3 (F := Ideal) a (View.ld x2 rMu) (View.ld x3 rMu) (ix2 r j)) = nrm a x2 x3 r :=
    funext fun j => by pointwise [k1_pay3, nrm]
  have e2 : (fun j => k1_pay4 (F := Ideal) b (View.ld x4 rMv) (View.ld x5 rMv) (ix2 r j)) = nrm b x4 x5 r :=
    funext fun j => by pointwise [k1_pay4, nrm]
  unfold subV right2
  rw [layV_apply]
  simp only [layU_apply, layV_apply, e1, e2]

/-- A block's first result as one formula. -/
def rowsU {R : ℕ} (x0 : Vec Ideal ⟨2, ![R, 1024]⟩ .f32) (x1 : Vec Ideal ⟨2, ![R, 4096]⟩ .f32) : Vec Ideal ⟨2, ![R, 1024]⟩ .f32 := fun y =>
  left2 (nrm x0 x2 x3 (y 0)) (nrm x1 x4 x5 (y 0)) (tall x6) (flat x7) (tall x8) (flat x9) (y 1)
/-- A block's second result as one formula. -/
def rowsV {R : ℕ} (x0 : Vec Ideal ⟨2, ![R, 1024]⟩ .f32) (x1 : Vec Ideal ⟨2, ![R, 4096]⟩ .f32) : Vec Ideal ⟨2, ![R, 4096]⟩ .f32 := fun y =>
  right2 (nrm x0 x2 x3 (y 0)) (nrm x1 x4 x5 (y 0)) (tall x6) (flat x7) (tall x8) (flat x9) (y 1)

/-- Rows loaded at an offset are normalised as the rows of the block they come from. -/
theorem nrm_ld {C : ℕ} (o : ℕ) (X : Vec Ideal ⟨2, ![512, C]⟩ .f32) (mu sc : Vec Ideal ⟨2, ![1, C]⟩ .f32)
    (hx : ∀ a : Fin 2, (![o, 0] : Fin 2 → ℕ) a + (![128, C] : Fin 2 → ℕ) a ≤ (![512, C] : Fin 2 → ℕ) a) (r : Fin 128) (r' : Fin 512) (hr : (r' : ℕ) = o + r) :
    nrm (R := 128) (View.ld X (Rect.unit (s := ⟨2, ![512, C]⟩) ![o, 0] ![128, C] hx)) mu sc r = nrm X mu sc r' := by
  funext j
  have e : View.ld X (Rect.unit (s := ⟨2, ![512, C]⟩) ![o, 0] ![128, C] hx) (ix2 r j) = X (ix2 r' j) :=
    View.ld_unit_apply_of X ![o, 0] ![128, C] hx (ix2 r j) (ix2 r' j) fun a => by
      match a with
      | ⟨0, _⟩ => exact hr
      | ⟨1, _⟩ => exact (Nat.zero_add _).symm
  unfold nrm
  exact congrArg (fun v => (v - mu (ix2 0 j)) * sc (ix2 0 j)) e

/-- A sub-block loaded at a row offset holds the block's rows from there: the first result. -/
theorem pieceU (o : ℕ) (hu : ∀ a : Fin S512x1024.rank, (![o, 0] : Fin 2 → ℕ) a + S128x1024.size a ≤ S512x1024.size a)
    (hv : ∀ a : Fin S512x4096.rank, (![o, 0] : Fin 2 → ℕ) a + S128x4096.size a ≤ S512x4096.size a) (x : S128x1024.Idx) :
    subU (F := Ideal) (View.ld x0 (Rect.unit (s := S512x1024) ![o, 0] S128x1024.size hu)) (View.ld x1 (Rect.unit (s := S512x4096) ![o, 0] S128x4096.size hv)) x2 x3 x4 x5 x6 x7 x8 x9 x
      = rowsU x2 x3 x4 x5 x6 x7 x8 x9 x0 x1 ((Rect.unit (s := S512x1024) ![o, 0] S128x1024.size hu).emb x) := by
  obtain ⟨r, j, rfl⟩ : ∃ r j, x = ix2 r j := ⟨x 0, x 1, eq_ix2 x⟩
  have h0 : (((Rect.unit (s := S512x1024) ![o, 0] S128x1024.size hu).emb (ix2 r j) 0 : Fin 512) : ℕ) = o + r :=
    ValueKit.rect_emb_unit_val (s := S512x1024) _ _ hu (ix2 r j) 0
  have h1 : ((Rect.unit (s := S512x1024) ![o, 0] S128x1024.size hu).emb (ix2 r j) 1 : Fin 1024) = j :=
    Fin.ext ((ValueKit.rect_emb_unit_val (s := S512x1024) _ _ hu (ix2 r j) 1).trans (Nat.zero_add _))
  rw [subU_apply]
  unfold rowsU
  rw [h1, ← nrm_ld o x0 x2 x3 hu r _ h0, ← nrm_ld o x1 x4 x5 hv r _ h0]

/-- The same of the second result. -/
theorem pieceV (o : ℕ) (hu : ∀ a : Fin S512x1024.rank, (![o, 0] : Fin 2 → ℕ) a + S128x1024.size a ≤ S512x1024.size a)
    (hv : ∀ a : Fin S512x4096.rank, (![o, 0] : Fin 2 → ℕ) a + S128x4096.size a ≤ S512x4096.size a) (x : S128x4096.Idx) :
    subV (F := Ideal) (View.ld x0 (Rect.unit (s := S512x1024) ![o, 0] S128x1024.size hu)) (View.ld x1 (Rect.unit (s := S512x4096) ![o, 0] S128x4096.size hv)) x2 x3 x4 x5 x6 x7 x8 x9 x
      = rowsV x2 x3 x4 x5 x6 x7 x8 x9 x0 x1 ((Rect.unit (s := S512x4096) ![o, 0] S128x4096.size hv).emb x) := by
  obtain ⟨r, j, rfl⟩ : ∃ r j, x = ix2 r j := ⟨x 0, x 1, eq_ix2 x⟩
  have h0 : (((Rect.unit (s := S512x4096) ![o, 0] S128x4096.size hv).emb (ix2 r j) 0 : Fin 512) : ℕ) = o + r :=
    ValueKit.rect_emb_unit_val (s := S512x4096) _ _ hv (ix2 r j) 0
  have h1 : ((Rect.unit (s := S512x4096) ![o, 0] S128x4096.size hv).emb (ix2 r j) 1 : Fin 4096) = j :=
    Fin.ext ((ValueKit.rect_emb_unit_val (s := S512x4096) _ _ hv (ix2 r j) 1).trans (Nat.zero_add _))
  rw [subV_apply]
  unfold rowsV
  rw [h1, ← nrm_ld o x0 x2 x3 hu r _ h0, ← nrm_ld o x1 x4 x5 hv r _ h0]

/-- A block's first result is the one formula. -/
theorem outU_eq : outU (F := Ideal) x0 x1 x2 x3 x4 x5 x6 x7 x8 x9 = rowsU x2 x3 x4 x5 x6 x7 x8 x9 x0 x1 := by
  funext y
  unfold outU
  refine View.canon_apply_of_pieces _ _ ?_ y (coverU ..)
  intro pc hpc
  simp only [List.mem_cons, List.not_mem_nil, or_false] at hpc
  rcases hpc with rfl | rfl | rfl | rfl
  all_goals exact pieceU x0 x1 x2 x3 x4 x5 x6 x7 x8 x9 _ _ _

/-- A block's second result is the one formula. -/
theorem outV_eq : outV (F := Ideal) x0 x1 x2 x3 x4 x5 x6 x7 x8 x9 = rowsV x2 x3 x4 x5 x6 x7 x8 x9 x0 x1 := by
  funext y
  unfold outV
  refine View.canon_apply_of_pieces _ _ ?_ y (coverV ..)
  intro pc hpc
  simp only [List.mem_cons, List.not_mem_nil, or_false] at hpc
  rcases hpc with rfl | rfl | rfl | rfl
  all_goals exact pieceV x0 x1 x2 x3 x4 x5 x6 x7 x8 x9 _ _ _

end Block

/-- Where the row windows' blocks lie at each point: block `t` of the rows, all columns. -/
theorem at_rows1 : ∀ t : Fin cfg1.N, (win1_0.index t 0 = t.val ∧ win1_0.index t 1 = 0) ∧ (win1_1.index t 0 = t.val ∧ win1_1.index t 1 = 0)
    ∧ (win1_10.index t 0 = t.val ∧ win1_10.index t 1 = 0) ∧ (win1_11.index t 0 = t.val ∧ win1_11.index t 1 = 0) := by decide +kernel
/-- The other windows' blocks are their whole arrays at every point: the column statistics, -/
theorem at_cols1 : ∀ t : Fin cfg1.N, (win1_2.index t 0 = 0 ∧ win1_2.index t 1 = 0) ∧ (win1_3.index t 0 = 0 ∧ win1_3.index t 1 = 0)
    ∧ (win1_4.index t 0 = 0 ∧ win1_4.index t 1 = 0) ∧ (win1_5.index t 0 = 0 ∧ win1_5.index t 1 = 0) := by decide +kernel
/-- and the weights. -/
theorem at_weights1 : ∀ t : Fin cfg1.N, (win1_6.index t 0 = 0 ∧ win1_6.index t 1 = 0) ∧ (win1_7.index t 0 = 0 ∧ win1_7.index t 1 = 0)
    ∧ (win1_8.index t 0 = 0 ∧ win1_8.index t 1 = 0) ∧ (win1_9.index t 0 = 0 ∧ win1_9.index t 1 = 0) := by decide +kernel

section Arrays
variable (V : (c : Dev nD) → (b : Ref sig .tc) → Buf (Elt Ideal) ((c : Thread nD τ).loc b)) (c : Dev nD)

/-- At every step window 2 shows its whole array: the means of the first columns. -/
theorem blk1_2 (t : Fin cfg1.N) : iblk1 (F := Ideal) V c 2 t = V c main_v0_0 := by
  funext y; obtain ⟨⟨h0, h1⟩, -⟩ := at_cols1 t; blk_ext! [iblk1, h0, h1]
/-- At every step window 3 shows its whole array: the reciprocal widths of the first columns. -/
theorem blk1_3 (t : Fin cfg1.N) : iblk1 (F := Ideal) V c 3 t = V c main_v0_1 := by
  funext y; obtain ⟨-, ⟨h0, h1⟩, -⟩ := at_cols1 t; blk_ext! [iblk1, h0, h1]
/-- At every step window 4 shows its whole array: the means of the last columns. -/
theorem blk1_4 (t : Fin cfg1.N) : iblk1 (F := Ideal) V c 4 t = V c main_v0_2 := by
  funext y; obtain ⟨-, -, ⟨h0, h1⟩, -⟩ := at_cols1 t; blk_ext! [iblk1, h0, h1]
/-- At every step window 5 shows its whole array: the reciprocal widths of the last columns. -/
theorem blk1_5 (t : Fin cfg1.N) : iblk1 (F := Ideal) V c 5 t = V c main_v0_3 := by
  funext y; obtain ⟨-, -, -, ⟨h0, h1⟩⟩ := at_cols1 t; blk_ext! [iblk1, h0, h1]
/-- At every step window 6 shows its whole array: the first layer's output factor. -/
theorem blk1_6 (t : Fin cfg1.N) : iblk1 (F := Ideal) V c 6 t = V c main_arg2 := by
  funext y; obtain ⟨⟨h0, h1⟩, -⟩ := at_weights1 t; blk_ext! [iblk1, h0, h1]
/-- At every step window 7 shows its whole array: the first layer's input factor. -/
theorem blk1_7 (t : Fin cfg1.N) : iblk1 (F := Ideal) V c 7 t = V c main_arg3 := by
  funext y; obtain ⟨-, ⟨h0, h1⟩, -⟩ := at_weights1 t; blk_ext! [iblk1, h0, h1]
/-- At every step window 8 shows its whole array: the second layer's output factor. -/
theorem blk1_8 (t : Fin cfg1.N) : iblk1 (F := Ideal) V c 8 t = V c main_arg5 := by
  funext y; obtain ⟨-, -, ⟨h0, h1⟩, -⟩ := at_weights1 t; blk_ext! [iblk1, h0, h1]
/-- At every step window 9 shows its whole array: the second layer's input factor. -/
theorem blk1_9 (t : Fin cfg1.N) : iblk1 (F := Ideal) V c 9 t = V c main_arg6 := by
  funext y; obtain ⟨-, -, -, ⟨h0, h1⟩⟩ := at_weights1 t; blk_ext! [iblk1, h0, h1]

/-- A row of the first input's block is that row of its array. -/
theorem blk1_0 (t : Fin cfg1.N) (r : Fin 512) (r' : Fin 16384) (hr : (r' : ℕ) = t.val * 512 + r) (j : Fin 1024) :
    iblk1 (F := Ideal) V c 0 t (ix2 r j) = V c main_arg0 (ix2 r' j) := by
  obtain ⟨⟨h0, h1⟩, -⟩ := at_rows1 t; blk_ext! [iblk1, h0, h1]
/-- A row of the second input's block is that row of its array. -/
theorem blk1_1 (t : Fin cfg1.N) (r : Fin 512) (r' : Fin 16384) (hr : (r' : ℕ) = t.val * 512 + r) (j : Fin 4096) :
    iblk1 (F := Ideal) V c 1 t (ix2 r j) = V c main_arg1 (ix2 r' j) := by
  obtain ⟨-, ⟨h0, h1⟩, -⟩ := at_rows1 t; blk_ext! [iblk1, h0, h1]

/-- The first result array after the second call, from the arrays the call reads. -/
theorem finalU : (dat1 (F := Ideal) V c).arrAt 10 cfg1.N
    = rowsU (V c main_v0_0) (V c main_v0_1) (V c main_v0_2) (V c main_v0_3) (V c main_arg2) (V c main_arg3) (V c main_arg5) (V c main_arg6) (V c main_arg0) (V c main_arg1) := by
  refine (dat1 V c).arrAt_eq_of_covers 10 _ (by decide +kernel) fun t hf y => ?_
  blk_simp
  rw [after1_10, outU_eq, blk1_2, blk1_3, blk1_4, blk1_5, blk1_6, blk1_7, blk1_8, blk1_9]
  obtain ⟨-, -, ⟨h0, h1⟩, -⟩ := at_rows1 t
  have e0 : (((win1_10.blk t).view.emb y 0 : Fin 16384) : ℕ) = t.val * 512 + (y 0 : Fin 512) := by blk_simp [h0]
  have e1 : ((win1_10.blk t).view.emb y 1 : Fin 1024) = (y 1 : Fin 1024) := Fin.ext (by blk_simp [h1])
  unfold rowsU
  rw [e1]
  congr 1
  · funext j; unfold nrm; rw [blk1_0 V c t _ _ e0]
  · funext j; unfold nrm; rw [blk1_1 V c t _ _ e0]

/-- The second result array after the second call. -/
theorem finalV : (dat1 (F := Ideal) V c).arrAt 11 cfg1.N
    = rowsV (V c main_v0_0) (V c main_v0_1) (V c main_v0_2) (V c main_v0_3) (V c main_arg2) (V c main_arg3) (V c main_arg5) (V c main_arg6) (V c main_arg0) (V c main_arg1) := by
  refine (dat1 V c).arrAt_eq_of_covers 11 _ (by decide +kernel) fun t hf y => ?_
  blk_simp
  rw [after1_11, outV_eq, blk1_2, blk1_3, blk1_4, blk1_5, blk1_6, blk1_7, blk1_8, blk1_9]
  obtain ⟨-, -, -, ⟨h0, h1⟩⟩ := at_rows1 t
  have e0 : (((win1_11.blk t).view.emb y 0 : Fin 16384) : ℕ) = t.val * 512 + (y 0 : Fin 512) := by blk_simp [h0]
  have e1 : ((win1_11.blk t).view.emb y 1 : Fin 4096) = (y 1 : Fin 4096) := Fin.ext (by blk_simp [h1])
  unfold rowsV
  rw [e1]
  congr 1
  · funext j; unfold nrm; rw [blk1_0 V c t _ _ e0]
  · funext j; unfold nrm; rw [blk1_1 V c t _ _ e0]

end Arrays

end Cert.KernelIdeal.Whole

end
-- ==== Proof.Whole.KernelIdeal.Result.lean ====
/- The kernel's two results over the extended reals, for real inputs: each row normalised by its columns' means and
   widths, and taken through the two layers. -/
module

public import proofs.«01_k».proof.Proof.Whole.KernelIdeal.Run
public import proofs.«01_k».proof.Proof.Whole.KernelIdeal.StatsValue
public import proofs.«01_k».proof.Proof.Whole.KernelIdeal.MlpValue

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Cert.Moments Cert.Layers

variable (m : (ℓ : Loc nD τ sig) → Buf (Elt Ideal) ℓ) (ρ : Dev nD → PrngReg) (c : Dev nD)
variable (A : Fin 1024 → ℕ → ℝ) (B : Fin 4096 → ℕ → ℝ)

/-- The second call finds every argument as it was at the start. -/
theorem V1_arg (a : Ref sig .tc) (ha : a ∈ argRefs) : V1 (F := Ideal) m ρ c a = m ((c.tc : Thread nD τ).loc a) := W1_args m ρ c a ha

/-- A first-group entry normalised from the first call's results is the scaled entry. -/
theorem nrm_u (hA : ∀ (r : Fin 16384) (j : Fin 1024), m ((c.tc : Thread nD τ).loc main_arg0) (ix2 r j) = ((A j r : ℝ) : EReal))
    (hB : ∀ (r : Fin 16384) (j : Fin 4096), m ((c.tc : Thread nD τ).loc main_arg1) (ix2 r j) = ((B j r : ℝ) : EReal)) (r : Fin 16384) :
    nrm (R := 16384) (C := 1024) (V1 (F := Ideal) m ρ c main_arg0) (V1 (F := Ideal) m ρ c main_v0_0) (V1 (F := Ideal) m ρ c main_v0_1) r
      = fun j => ((scaled (A j) r : ℝ) : EReal) := by
  obtain ⟨h1, h2, -, -⟩ := final_stats (V0 (F := Ideal) m ρ) c A B hA hB
  funext j
  have e0 : V1 (F := Ideal) m ρ c main_arg0 (ix2 r j) = ((A j r : ℝ) : EReal) :=
    (congrFun (V1_arg m ρ c main_arg0 (by decide)) (ix2 r j)).trans (hA r j)
  have e1 : V1 (F := Ideal) m ρ c main_v0_0 (ix2 0 j) = ((mean (A j) 16384 : ℝ) : EReal) := (congrFun (hF0 m ρ c 2) (ix2 0 j)).symm.trans (h1 j)
  have e2 : V1 (F := Ideal) m ρ c main_v0_1 (ix2 0 j) = ((1 / width (A j) : ℝ) : EReal) := (congrFun (hF0 m ρ c 3) (ix2 0 j)).symm.trans (h2 j)
  unfold nrm
  refine (congrArg₂ (fun a b : EReal => a * b) (congrArg₂ (fun a b : EReal => a - b) e0 e1) e2).trans ?_
  rw [← EReal.coe_sub, ← EReal.coe_mul]
  rfl

/-- A second-group entry likewise. -/
theorem nrm_v (hA : ∀ (r : Fin 16384) (j : Fin 1024), m ((c.tc : Thread nD τ).loc main_arg0) (ix2 r j) = ((A j r : ℝ) : EReal))
    (hB : ∀ (r : Fin 16384) (j : Fin 4096), m ((c.tc : Thread nD τ).loc main_arg1) (ix2 r j) = ((B j r : ℝ) : EReal)) (r : Fin 16384) :
    nrm (R := 16384) (C := 4096) (V1 (F := Ideal) m ρ c main_arg1) (V1 (F := Ideal) m ρ c main_v0_2) (V1 (F := Ideal) m ρ c main_v0_3) r
      = fun j => ((scaled (B j) r : ℝ) : EReal) := by
  obtain ⟨-, -, h1, h2⟩ := final_stats (V0 (F := Ideal) m ρ) c A B hA hB
  funext j
  have e0 : V1 (F := Ideal) m ρ c main_arg1 (ix2 r j) = ((B j r : ℝ) : EReal) :=
    (congrFun (V1_arg m ρ c main_arg1 (by decide)) (ix2 r j)).trans (hB r j)
  have e1 : V1 (F := Ideal) m ρ c main_v0_2 (ix2 0 j) = ((mean (B j) 16384 : ℝ) : EReal) := (congrFun (hF0 m ρ c 4) (ix2 0 j)).symm.trans (h1 j)
  have e2 : V1 (F := Ideal) m ρ c main_v0_3 (ix2 0 j) = ((1 / width (B j) : ℝ) : EReal) := (congrFun (hF0 m ρ c 5) (ix2 0 j)).symm.trans (h2 j)
  unfold nrm
  refine (congrArg₂ (fun a b : EReal => a * b) (congrArg₂ (fun a b : EReal => a - b) e0 e1) e2).trans ?_
  rw [← EReal.coe_sub, ← EReal.coe_mul]
  rfl

/-- The first result at the end, at an entry. -/
theorem resultU (hA : ∀ (r : Fin 16384) (j : Fin 1024), m ((c.tc : Thread nD τ).loc main_arg0) (ix2 r j) = ((A j r : ℝ) : EReal))
    (hB : ∀ (r : Fin 16384) (j : Fin 4096), m ((c.tc : Thread nD τ).loc main_arg1) (ix2 r j) = ((B j r : ℝ) : EReal)) (r : Fin 16384) (j : Fin 1024) :
    W2 (F := Ideal) m ρ c (Proc.devRef .tc main_v1_0) (ix2 r j)
      = left2 (fun j => ((scaled (A j) r : ℝ) : EReal)) (fun j => ((scaled (B j) r : ℝ) : EReal))
          (tall (m ((c.tc : Thread nD τ).loc main_arg2))) (flat (m ((c.tc : Thread nD τ).loc main_arg3)))
          (tall (m ((c.tc : Thread nD τ).loc main_arg5))) (flat (m ((c.tc : Thread nD τ).loc main_arg6))) j := by
  refine (congrFun ((W2_arr m ρ c 10).trans (finalU (V1 m ρ) c)) (ix2 r j)).trans ?_
  unfold rowsU
  refine (congrFun (congrArg₂ (fun a b => left2 a b _ _ _ _) (nrm_u m ρ c A B hA hB r) (nrm_v m ρ c A B hA hB r)) j).trans ?_
  rw [V1_arg m ρ c main_arg2 (by decide), V1_arg m ρ c main_arg3 (by decide), V1_arg m ρ c main_arg5 (by decide), V1_arg m ρ c main_arg6 (by decide)]

/-- The second result at the end, at an entry. -/
theorem resultV (hA : ∀ (r : Fin 16384) (j : Fin 1024), m ((c.tc : Thread nD τ).loc main_arg0) (ix2 r j) = ((A j r : ℝ) : EReal))
    (hB : ∀ (r : Fin 16384) (j : Fin 4096), m ((c.tc : Thread nD τ).loc main_arg1) (ix2 r j) = ((B j r : ℝ) : EReal)) (r : Fin 16384) (j : Fin 4096) :
    W2 (F := Ideal) m ρ c (Proc.devRef .tc main_v1_1) (ix2 r j)
      = right2 (fun j => ((scaled (A j) r : ℝ) : EReal)) (fun j => ((scaled (B j) r : ℝ) : EReal))
          (tall (m ((c.tc : Thread nD τ).loc main_arg2))) (flat (m ((c.tc : Thread nD τ).loc main_arg3)))
          (tall (m ((c.tc : Thread nD τ).loc main_arg5))) (flat (m ((c.tc : Thread nD τ).loc main_arg6))) j := by
  refine (congrFun ((W2_arr m ρ c 11).trans (finalV (V1 m ρ) c)) (ix2 r j)).trans ?_
  unfold rowsV
  refine (congrFun (congrArg₂ (fun a b => right2 a b _ _ _ _) (nrm_u m ρ c A B hA hB r) (nrm_v m ρ c A B hA hB r)) j).trans ?_
  rw [V1_arg m ρ c main_arg2 (by decide), V1_arg m ρ c main_arg3 (by decide), V1_arg m ρ c main_arg5 (by decide), V1_arg m ρ c main_arg6 (by decide)]

end Cert.KernelIdeal.Whole

end
-- ==== Proof.Whole.Agree.lean ====
/- The kernel and the reference compute the same two results from equal arguments, real inputs and zero biases. -/
module

public import proofs.«01_k».proof.Defs
public import proofs.«01_k».proof.Proof.Gen.Pre_finite_zero_bias
public import proofs.«01_k».proof.Proof.Whole.Pre
public import proofs.«01_k».proof.Proof.Whole.KernelIdeal.Result
public import proofs.«01_k».proof.Proof.Whole.Reference.Result

@[expose] public section

set_option maxRecDepth 16384

noncomputable section

namespace Cert.Agree

open Idealize.ShloMosaic Idealize.SL.Sem

/-- A column of an array, continued by zeros past its last row. -/
def column {C : ℕ} (x : Vec Ideal ⟨2, ![16384, C]⟩ .f32) (j : Fin C) (i : ℕ) : ℝ :=
  if h : i < 16384 then (x (ix2 ⟨i, h⟩ j) : EReal).toReal else 0

/-- At a row of the array the column is the entry. -/
theorem column_apply {C : ℕ} (x : Vec Ideal ⟨2, ![16384, C]⟩ .f32) (j : Fin C) (r : Fin 16384) : column x j r = (x (ix2 r j) : EReal).toReal :=
  dif_pos r.isLt

/-- The value claim. -/
theorem algebraic : Cert.algebraic_KernelIdeal_ReferenceIdeal_pre_finite_zero_bias
    (hKernelIdeal := Cert.KernelIdeal.Gen.facts) (hReferenceIdeal := Cert.ReferenceIdeal.Gen.facts)
    (hPre_finite_zero_bias := Cert.Pre_finite_zero_bias.Gen.facts) := by
  intro m g m' g' hpre harg
  refine ⟨fun c => KernelIdeal.Whole.W2 m g c (Proc.devRef .tc KernelIdeal.main_v1_0), fun c => KernelIdeal.Whole.W2 m g c (Proc.devRef .tc KernelIdeal.main_v1_1), ?_, ?_⟩
  · refine (θ_run _ _ _).mono (fun r h c => ?_) (KernelIdeal.Whole.run_all m g)
    have key : ∀ a ∈ KernelIdeal.Whole.argRefs, ¬ (Proc.devRef .tc a : DevRef KernelIdeal.τ KernelIdeal.sig).isScoped →
        r.2.mem ((c.tc : Thread KernelIdeal.nD KernelIdeal.τ).loc a) = m ((c.tc : Thread KernelIdeal.nD KernelIdeal.τ).loc a) :=
      fun a ha hu => (h.1 c _ (KernelIdeal.Whole.mem_uc a hu)).trans (KernelIdeal.Whole.W2_args m g c a ha)
    refine ⟨h.1 c _ (KernelIdeal.Whole.mem_uc _ (by decide)), h.1 c _ (KernelIdeal.Whole.mem_uc _ (by decide)), ?_, ?_, ?_, ?_, ?_, ?_, ?_, ?_⟩
    all_goals exact key _ (by decide) (by decide)
  · refine (θ_run _ _ _).mono (fun r h c => ?_) (ReferenceIdeal.Whole.run_all m' g')
    obtain ⟨hu, hv, hb0, hb1⟩ := Cert.Pre_finite_zero_bias.decode _ _ _ _ _ _ _ _ (hpre c)
    obtain ⟨a0, a1, a2, a3, a4, a5, a6, a7⟩ := harg c
    have hA : ∀ (r : Fin 16384) (j : Fin 1024), m ((c.tc : Thread KernelIdeal.nD KernelIdeal.τ).loc KernelIdeal.main_arg0) (ix2 r j)
        = ((column (m ((c.tc : Thread KernelIdeal.nD KernelIdeal.τ).loc KernelIdeal.main_arg0)) j r : ℝ) : EReal) := fun r j => by
      rw [column_apply]; exact hu r j
    have hB : ∀ (r : Fin 16384) (j : Fin 4096), m ((c.tc : Thread KernelIdeal.nD KernelIdeal.τ).loc KernelIdeal.main_arg1) (ix2 r j)
        = ((column (m ((c.tc : Thread KernelIdeal.nD KernelIdeal.τ).loc KernelIdeal.main_arg1)) j r : ℝ) : EReal) := fun r j => by
      rw [column_apply]; exact hv r j
    obtain ⟨r0, r1, rest⟩ := h c
    refine ⟨r0.trans (funext fun y => ?_), r1.trans (funext fun y => ?_), rest⟩
    · obtain ⟨i, j, rfl⟩ : ∃ i j, y = ix2 i j := ⟨y 0, y 1, eq_ix2 y⟩
      refine (ReferenceIdeal.Whole.resultU m' c _ _ (fun r j => (congrFun a0 _).trans (hA r j)) (fun r j => (congrFun a1 _).trans (hB r j))
        (fun j => (congrFun a4 _).trans (hb0 j)) (fun j => (congrFun a7 _).trans (hb1 j)) i j).trans ?_
      refine Eq.trans ?_ (KernelIdeal.Whole.resultU m g c _ _ hA hB i j).symm
      rw [a2, a3, a5, a6]
    · obtain ⟨i, j, rfl⟩ : ∃ i j, y = ix2 i j := ⟨y 0, y 1, eq_ix2 y⟩
      refine (ReferenceIdeal.Whole.resultV m' c _ _ (fun r j => (congrFun a0 _).trans (hA r j)) (fun r j => (congrFun a1 _).trans (hB r j))
        (fun j => (congrFun a4 _).trans (hb0 j)) (fun j => (congrFun a7 _).trans (hb1 j)) i j).trans ?_
      refine Eq.trans ?_ (KernelIdeal.Whole.resultV m g c _ _ hA hB i j).symm
      rw [a2, a3, a5, a6]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_zero_bias
public import proofs.«01_k».proof.Proof.Gen.ReferenceIdeal.Run
public import proofs.«01_k».proof.Proof.Whole.Kernel.Run
public import proofs.«01_k».proof.Proof.Whole.KernelIdeal.Run
public import proofs.«01_k».proof.Proof.Whole.Reference.Result
public import proofs.«01_k».proof.Proof.Whole.Agree
public import Idealize.ShloMosaic.Adequacy
public import Idealize.ShloMosaic.Init

@[expose] public section

noncomputable section

namespace Cert.Proof

open Idealize.ShloMosaic Idealize.SL.Sem Cert.Kernel

/-- All the claims: the frames of the three programs, the named constant, and the equality of the results. -/
theorem claim : Cert.Claim := ⟨Cert.Kernel.Gen.facts, Cert.KernelIdeal.Gen.facts, Cert.ReferenceIdeal.Gen.facts, Cert.Pre_finite_zero_bias.Gen.facts,
  fun m g _ => Cert.Kernel.Whole.frame m g,
  fun m g _ => Cert.KernelIdeal.Whole.frame m g,
  fun m g _ => Cert.KernelIdeal.Whole.frame m g,
  fun m g _ => Cert.ReferenceIdeal.Whole.frame m g,
  fun m g _ => Cert.ReferenceIdeal.Whole.frame m g,
  IdealRules.named_const.statement Cert.KernelIdeal.κ "inv_nm1" .f32 0x38800200#32 ((1 / 16383 : ℝ) : EReal) rfl,
  Cert.Agree.algebraic⟩

end Cert.Proof

end
